-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_scores_inputs [hPre_real_scores_inputs : Cert.Pre_real_scores_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_scores_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_scores_inputs [hPre_real_scores_inputs : Cert.Pre_real_scores_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_scores_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_real_scores_inputs [hKernelIdeal : Cert.KernelIdeal.Facts] [hPre_real_scores_inputs : Cert.Pre_real_scores_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_scores_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_real_scores_inputs [hReferenceIdeal : Cert.ReferenceIdeal.Facts] [hPre_real_scores_inputs : Cert.Pre_real_scores_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_scores_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_real_scores_inputs [hKernelIdeal : Cert.KernelIdeal.Facts] [hReferenceIdeal : Cert.ReferenceIdeal.Facts] [hPre_real_scores_inputs : Cert.Pre_real_scores_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_scores_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v18_3)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v18_4)) (v4 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v18_3) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v18_4) = v3 c
          ∧ r.2.mem ((c.tc : Thread Cert.KernelIdeal.nD Cert.KernelIdeal.τ).loc Cert.KernelIdeal.main_v18_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_real_scores_inputs : Cert.Pre_real_scores_inputs.Facts),
    quiescent_Kernel (hKernel := hKernel)
    ∧ quiescent_KernelIdeal (hKernelIdeal := hKernelIdeal)
    ∧ quiescent_KernelIdeal_pre_real_scores_inputs (hKernelIdeal := hKernelIdeal) (hPre_real_scores_inputs := hPre_real_scores_inputs)
    ∧ quiescent_ReferenceIdeal (hReferenceIdeal := hReferenceIdeal)
    ∧ quiescent_ReferenceIdeal_pre_real_scores_inputs (hReferenceIdeal := hReferenceIdeal) (hPre_real_scores_inputs := hPre_real_scores_inputs)
    ∧ preserves_Kernel_KernelIdeal
    ∧ algebraic_KernelIdeal_ReferenceIdeal_pre_real_scores_inputs (hKernelIdeal := hKernelIdeal) (hReferenceIdeal := hReferenceIdeal) (hPre_real_scores_inputs := hPre_real_scores_inputs)
-- ==== Pre_real_scores_inputs.lean ====
abbrev S128 : Shape := ⟨1, ![128]⟩
abbrev S1x768 : Shape := ⟨2, ![1, 768]⟩
abbrev S1 : Shape := ⟨1, ![1]⟩
abbrev S1x128x256 : Shape := ⟨3, ![1, 128, 256]⟩
abbrev S2048x100 : Shape := ⟨2, ![2048, 100]⟩
abbrev S2048x128x256 : Shape := ⟨3, ![2048, 128, 256]⟩
abbrev S100x768 : Shape := ⟨2, ![100, 768]⟩
abbrev S100 : Shape := ⟨1, ![100]⟩
abbrev S64x128 : Shape := ⟨2, ![64, 128]⟩
abbrev S64 : Shape := ⟨1, ![64]⟩
abbrev S128x64 : Shape := ⟨2, ![128, 64]⟩
abbrev S1x356 : Shape := ⟨2, ![1, 356]⟩
abbrev S768x101 : Shape := ⟨2, ![768, 101]⟩
abbrev S768x256 : Shape := ⟨2, ![768, 256]⟩
abbrev S768 : Shape := ⟨1, ![768]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S1x768 : S_.BroadcastsInDim S1x768 (![] : Fin 0 → Fin S1x768.rank)
  reducesTo_S1x768_S_d0_1 : S1x768.ReducesTo [0, 1] S_
  bcast_S_S2048x100 : S_.BroadcastsInDim S2048x100 (![] : Fin 0 → Fin S2048x100.rank)
  reducesTo_S2048x100_S_d0_1 : S2048x100.ReducesTo [0, 1] S_
  bcast_S_S100x768 : S_.BroadcastsInDim S100x768 (![] : Fin 0 → Fin S100x768.rank)
  reducesTo_S100x768_S_d0_1 : S100x768.ReducesTo [0, 1] S_
  bcast_S_S100 : S_.BroadcastsInDim S100 (![] : Fin 0 → Fin S100.rank)
  reducesTo_S100_S_d0 : S100.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part3 {F : FTy → Type} [FloatOps F] (main_arg11 : FVec F S128x64 .f32) (main_v47 : IVec S_ 1) (main_v49 : IVec S128x64 1) : IVec S_ 1 :=
  let main_cst_20 : FVec F S_ .f32 := constant S_ .f32 0x7F800000#32
  let main_v50 : FVec F S128x64 .f32 := broadcastInDim S128x64 ![] bcast_S_S128x64 main_cst_20
  let main_v51 : IVec S128x64 1 := cmpf .olt main_arg11 main_v50
  let main_v52 : IVec S128x64 1 := andi main_v49 main_v51
  let main_c_21 : IVec S_ 1 := constantI S_ 1 1#1
  let main_v53 : IVec S_ 1 := (fun x v => Host.reduce IntOp.andi x v reducesTo_S128x64_S_d0_1 h_S_) main_v52 main_c_21
  let main_v54 : IVec S_ 1 := andi main_v47 main_v53
  main_v54

def fn_part2 {F : FTy → Type} [FloatOps F] (main_arg9 : FVec F S64x128 .f32) (main_arg10 : FVec F S64 .f32) (main_arg11 : FVec F S128x64 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S64x128 .f32 := broadcastInDim S64x128 ![] bcast_S_S64x128 main_cst_13
  let main_v35 : IVec S64x128 1 := cmpf .ogt main_arg9 main_v34
  let main_cst_14 : FVec F S_ .f32 := constant S_ .f32 0x7F800000#32
  let main_v36 : FVec F S64x128 .f32 := broadcastInDim S64x128 ![] bcast_S_S64x128 main_cst_14
  let main_v37 : IVec S64x128 1 := cmpf .olt main_arg9 main_v36
  let main_v38 : IVec S64x128 1 := andi main_v35 main_v37
  let main_c_15 : IVec S_ 1 := constantI S_ 1 1#1
  let main_v39 : IVec S_ 1 := (fun x v => Host.reduce IntOp.andi x v reducesTo_S64x128_S_d0_1 h_S_) main_v38 main_c_15
  let main_v40 : IVec S_ 1 := andi main_v33 main_v39
  let main_cst_16 : FVec F S_ .f32 := constant S_ .f32 0xFF800000#32
  let main_v41 : FVec F S64 .f32 := broadcastInDim S64 ![] bcast_S_S64 main_cst_16
  let main_v42 : IVec S64 1 := cmpf .ogt main_arg10 main_v41
  let main_cst_17 : FVec F S_ .f32 := constant S_ .f32 0x7F800000#32
  let main_v43 : FVec F S64 .f32 := broadcastInDim S64 ![] bcast_S_S64 main_cst_17
  let main_v44 : IVec S64 1 := cmpf .olt main_arg10 main_v43
  let main_v45 : IVec S64 1 := andi main_v42 main_v44
  let main_c_18 : IVec S_ 1 := constantI S_ 1 1#1
  let main_v46 : IVec S_ 1 := (fun x v => Host.reduce IntOp.andi x v reducesTo_S64_S_d0 h_S_) main_v45 main_c_18
  let main_v47 : IVec S_ 1 := andi main_v40 main_v46
  let main_cst_19 : FVec F S_ .f32 := constant S_ .f32 0xFF800000#32
  let main_v48 : FVec F S128x64 .f32 := broadcastInDim S128x64 ![] bcast_S_S128x64 main_cst_19
  let main_v49 : IVec S128x64 1 := cmpf .ogt main_arg11 main_v48
  fn_part3 (F := F) main_arg11 main_v47 main_v49

def fn_part1 {F : FTy → Type} [FloatOps F] (main_arg5 : FVec F S2048x100 .f32) (main_arg7 : FVec F S100x768 .f32) (main_arg8 : FVec F S100 .f32) (main_arg9 : FVec F S64x128 .f32) (main_arg10 : FVec F S64 .f32) (main_arg11 : FVec F S128x64 .f32) (main_v12 : IVec S_ 1) (main_v14 : IVec S2048x100 1) (main_v15 : FVec F S2048x100 .f32) : IVec S_ 1 :=
  let main_v16 : IVec S2048x100 1 := cmpf .olt main_arg5 main_v15
  let main_v17 : IVec S2048x100 1 := andi main_v14 main_v16
  let main_c_6 : IVec S_ 1 := constantI S_ 1 1#1
  let main_v18 : IVec S_ 1 := (fun x v => Host.reduce IntOp.andi x v reducesTo_S2048x100_S_d0_1 h_S_) main_v17 main_c_6
  let main_v19 : IVec S_ 1 := andi main_v12 main_v18
  let main_cst_7 : FVec F S_ .f32 := constant S_ .f32 0xFF800000#32
  let main_v20 : FVec F S100x768 .f32 := broadcastInDim S100x768 ![] bcast_S_S100x768 main_cst_7
  let main_v21 : IVec S100x768 1 := cmpf .ogt main_arg7 main_v20
  let main_cst_8 : FVec F S_ .f32 := constant S_ .f32 0x7F800000#32
  let main_v22 : FVec F S100x768 .f32 := broadcastInDim S100x768 ![] bcast_S_S100x768 main_cst_8
  let main_v23 : IVec S100x768 1 := cmpf .olt main_arg7 main_v22
  let main_v24 : IVec S100x768 1 := andi main_v21 main_v23
  let main_c_9 : IVec S_ 1 := constantI S_ 1 1#1
  let main_v25 : IVec S_ 1 := (fun x v => Host.reduce IntOp.andi x v reducesTo_S100x768_S_d0_1 h_S_) main_v24 main_c_9
  let main_v26 : IVec S_ 1 := andi main_v19 main_v25
  let main_cst_10 : FVec F S_ .f32 := constant S_ .f32 0xFF800000#32
  let main_v27 : FVec F S100 .f32 := broadcastInDim S100 ![] bcast_S_S100 main_cst_10
  let main_v28 : IVec S100 1 := cmpf .ogt main_arg8 main_v27
  let main_cst_11 : FVec F S_ .f32 := constant S_ .f32 0x7F800000#32
  let main_v29 : FVec F S100 .f32 := broadcastInDim S100 ![] bcast_S_S100 main_cst_11
  let main_v30 : IVec S100 1 := cmpf .olt main_arg8 main_v29
  let main_v31 : IVec S100 1 := andi main_v28 main_v30
  let main_c_12 : IVec S_ 1 := constantI S_ 1 1#1
  let main_v32 : IVec S_ 1 := (fun x v => Host.reduce IntOp.andi x v reducesTo_S100_S_d0 h_S_) main_v31 main_c_12
  fn_part2 (F := F) main_arg9 main_arg10 main_arg11 main_v26 main_v32

def fn {F : FTy → Type} [FloatOps F] (main_arg0 : FVec F S128 .f32) (main_arg1 : FVec F S1x768 .f32) (main_arg2 : FVec F S1 .f32) (main_arg3 : FVec F S1 .f32) (main_arg4 : FVec F S1x128x256 .f32) (main_arg5 : FVec F S2048x100 .f32) (main_arg6 : FVec F S2048x128x256 .f32) (main_arg7 : FVec F S100x768 .f32) (main_arg8 : FVec F S100 .f32) (main_arg9 : FVec F S64x128 .f32) (main_arg10 : FVec F S64 .f32) (main_arg11 : FVec F S128x64 .f32) (main_arg12 : FVec F S1x356 .f32) (main_arg13 : FVec F S1 .f32) (main_arg14 : FVec F S768x101 .f32) (main_arg15 : FVec F S768x256 .f32) (main_arg16 : FVec F S768 .f32) (main_arg17 : FVec F S768 .f32) : IVec S_ 1 :=
  let main_cst : FVec F S_ .f32 := constant S_ .f32 0xFF800000#32
  let main_v0 : FVec F S128 .f32 := broadcastInDim S128 ![] bcast_S_S128 main_cst
  let main_v1 : IVec S128 1 := cmpf .ogt main_arg0 main_v0
  let main_cst_0 : FVec F S_ .f32 := constant S_ .f32 0x7F800000#32
  let main_v2 : FVec F S128 .f32 := broadcastInDim S128 ![] bcast_S_S128 main_cst_0
  let main_v3 : IVec S128 1 := cmpf .olt main_arg0 main_v2
  let main_v4 : IVec S128 1 := andi main_v1 main_v3
  let main_c : IVec S_ 1 := constantI S_ 1 1#1
  let main_v5 : IVec S_ 1 := (fun x v => Host.reduce IntOp.andi x v reducesTo_S128_S_d0 h_S_) main_v4 main_c
  let main_cst_1 : FVec F S_ .f32 := constant S_ .f32 0xFF800000#32
  let main_v6 : FVec F S1x768 .f32 := broadcastInDim S1x768 ![] bcast_S_S1x768 main_cst_1
  let main_v7 : IVec S1x768 1 := cmpf .ogt main_arg1 main_v6
  let main_cst_2 : FVec F S_ .f32 := constant S_ .f32 0x7F800000#32
  let main_v8 : FVec F S1x768 .f32 := broadcastInDim S1x768 ![] bcast_S_S1x768 main_cst_2
  let main_v9 : IVec S1x768 1 := cmpf .olt main_arg1 main_v8
  let main_v10 : IVec S1x768 1 := andi main_v7 main_v9
  let main_c_3 : IVec S_ 1 := constantI S_ 1 1#1
  let main_v11 : IVec S_ 1 := (fun x v => Host.reduce IntOp.andi x v reducesTo_S1x768_S_d0_1 h_S_) main_v10 main_c_3
  let main_v12 : IVec S_ 1 := andi main_v5 main_v11
  let main_cst_4 : FVec F S_ .f32 := constant S_ .f32 0xFF800000#32
  let main_v13 : FVec F S2048x100 .f32 := broadcastInDim S2048x100 ![] bcast_S_S2048x100 main_cst_4
  let main_v14 : IVec S2048x100 1 := cmpf .ogt main_arg5 main_v13
  let main_cst_5 : FVec F S_ .f32 := constant S_ .f32 0x7F800000#32
  let main_v15 : FVec F S2048x100 .f32 := broadcastInDim S2048x100 ![] bcast_S_S2048x100 main_cst_5
  fn_part1 (F := F) main_arg5 main_arg7 main_arg8 main_arg9 main_arg10 main_arg11 main_v12 main_v14 main_v15
-- ==== Kernel.lean ====
abbrev S128 : Shape := ⟨1, ![128]⟩
abbrev S1x768 : Shape := ⟨2, ![1, 768]⟩
abbrev S1 : Shape := ⟨1, ![1]⟩
abbrev S1x128x256 : Shape := ⟨3, ![1, 128, 256]⟩
abbrev S2048x100 : Shape := ⟨2, ![2048, 100]⟩
abbrev S2048x128x256 : Shape := ⟨3, ![2048, 128, 256]⟩
abbrev S100x768 : Shape := ⟨2, ![100, 768]⟩
abbrev S100 : Shape := ⟨1, ![100]⟩
abbrev S64x128 : Shape := ⟨2, ![64, 128]⟩
abbrev S64 : Shape := ⟨1, ![64]⟩
abbrev S128x64 : Shape := ⟨2, ![128, 64]⟩
abbrev S1x356 : Shape := ⟨2, ![1, 356]⟩
abbrev S768x101 : Shape := ⟨2, ![768, 101]⟩
abbrev S768x256 : Shape := ⟨2, ![768, 256]⟩
abbrev S768 : Shape := ⟨1, ![768]⟩
abbrev S1x128 : Shape := ⟨2, ![1, 128]⟩
abbrev S1x1 : Shape := ⟨2, ![1, 1]⟩
abbrev S128x256 : Shape := ⟨2, ![128, 256]⟩
abbrev S100x2048 : Shape := ⟨2, ![100, 2048]⟩
abbrev S768x100 : Shape := ⟨2, ![768, 100]⟩
abbrev S1x100 : Shape := ⟨2, ![1, 100]⟩
abbrev S1x64 : Shape := ⟨2, ![1, 64]⟩
abbrev S101x768 : Shape := ⟨2, ![101, 768]⟩
abbrev S256x768 : Shape := ⟨2, ![256, 768]⟩
abbrev S1x256 : Shape := ⟨2, ![1, 256]⟩
abbrev S2049x128x256 : Shape := ⟨3, ![2049, 128, 256]⟩
abbrev S64x128x256 : Shape := ⟨3, ![64, 128, 256]⟩
abbrev S1x2048 : Shape := ⟨2, ![1, 2048]⟩
abbrev S1x1x2048 : Shape := ⟨3, ![1, 1, 2048]⟩
abbrev S1x1x1 : Shape := ⟨3, ![1, 1, 1]⟩
abbrev S1x1x64 : Shape := ⟨3, ![1, 1, 64]⟩
abbrev S1x1x128 : Shape := ⟨3, ![1, 1, 128]⟩
abbrev S128x1 : Shape := ⟨2, ![128, 1]⟩
abbrev S128x768 : Shape := ⟨2, ![128, 768]⟩
abbrev S2049x100 : Shape := ⟨2, ![2049, 100]⟩

abbrev nBuf : Space → Nat
  | .hbm => 43
  | .vmem => 31
  | .smem => 1
  | _ => 0

abbrev bufTy : (tb : Table) → Fin (tcTables nBuf tb) → BufTy
  | .hbm, ⟨0, _⟩ => ⟨S128, .f32⟩
  | .hbm, ⟨1, _⟩ => ⟨S1x768, .f32⟩
  | .hbm, ⟨2, _⟩ => ⟨S1, .f32⟩
  | .hbm, ⟨3, _⟩ => ⟨S1, .f32⟩
  | .hbm, ⟨4, _⟩ => ⟨S1x128x256, .f32⟩
  | .hbm, ⟨5, _⟩ => ⟨S2048x100, .f32⟩
  | .hbm, ⟨6, _⟩ => ⟨S2048x128x256, .f32⟩
  | .hbm, ⟨7, _⟩ => ⟨S100x768, .f32⟩
  | .hbm, ⟨8, _⟩ => ⟨S100, .f32⟩
  | .hbm, ⟨9, _⟩ => ⟨S64x128, .f32⟩
  | .hbm, ⟨10, _⟩ => ⟨S64, .f32⟩
  | .hbm, ⟨11, _⟩ => ⟨S128x64, .f32⟩
  | .hbm, ⟨12, _⟩ => ⟨S1x356, .f32⟩
  | .hbm, ⟨13, _⟩ => ⟨S1, .f32⟩
  | .hbm, ⟨14, _⟩ => ⟨S768x101, .f32⟩
  | .hbm, ⟨15, _⟩ => ⟨S768x256, .f32⟩
  | .hbm, ⟨16, _⟩ => ⟨S768, .f32⟩
  | .hbm, ⟨17, _⟩ => ⟨S768, .f32⟩
  | .hbm, ⟨18, _⟩ => ⟨S1x128, .f32⟩
  | .hbm, ⟨19, _⟩ => ⟨S1x1, .f32⟩
  | .hbm, ⟨20, _⟩ => ⟨S128x256, .f32⟩
  | .hbm, ⟨21, _⟩ => ⟨S100x2048, .f32⟩
  | .hbm, ⟨22, _⟩ => ⟨S768x100, .f32⟩
  | .hbm, ⟨23, _⟩ => ⟨S1x100, .f32⟩
  | .hbm, ⟨24, _⟩ => ⟨S128x64, .f32⟩
  | .hbm, ⟨25, _⟩ => ⟨S1x64, .f32⟩
  | .hbm, ⟨26, _⟩ => ⟨S64x128, .f32⟩
  | .hbm, ⟨27, _⟩ => ⟨S101x768, .f32⟩
  | .hbm, ⟨28, _⟩ => ⟨S1x768, .f32⟩
  | .hbm, ⟨29, _⟩ => ⟨S256x768, .f32⟩
  | .hbm, ⟨30, _⟩ => ⟨S1x768, .f32⟩
  | .hbm, ⟨31, _⟩ => ⟨S1x100, .f32⟩
  | .hbm, ⟨32, _⟩ => ⟨S1x256, .f32⟩
  | .hbm, ⟨33, _⟩ => ⟨S1x1, .f32⟩
  | .hbm, ⟨34, _⟩ => ⟨S100x768, .f32⟩
  | .hbm, ⟨35, _⟩ => ⟨S1x768, .f32⟩
  | .hbm, ⟨36, _⟩ => ⟨S1x1, .f32⟩
  | .hbm, ⟨37, _⟩ => ⟨S1x100, .f32⟩
  | .hbm, ⟨38, _⟩ => ⟨S1x64, .f32⟩
  | .hbm, ⟨39, _⟩ => ⟨S1x128x256, .f32⟩
  | .hbm, ⟨40, _⟩ => ⟨S2049x128x256, .f32⟩
  | .hbm, ⟨41, _⟩ => ⟨S2049x100, .f32⟩
  | .hbm, ⟨42, _⟩ => ⟨S1, .f32⟩
  | .local _ .vmem, ⟨0, _⟩ => ⟨S1x768, .f32⟩
  | .local _ .vmem, ⟨1, _⟩ => ⟨S1x128, .f32⟩
  | .local _ .vmem, ⟨2, _⟩ => ⟨S1x1, .f32⟩
  | .local _ .vmem, ⟨3, _⟩ => ⟨S128x256, .f32⟩
  | .local _ .vmem, ⟨4, _⟩ => ⟨S100x2048, .f32⟩
  | .local _ .vmem, ⟨5, _⟩ => ⟨S768x100, .f32⟩
  | .local _ .vmem, ⟨6, _⟩ => ⟨S1x100, .f32⟩
  | .local _ .vmem, ⟨7, _⟩ => ⟨S128x64, .f32⟩
  | .local _ .vmem, ⟨8, _⟩ => ⟨S1x64, .f32⟩
  | .local _ .vmem, ⟨9, _⟩ => ⟨S64x128, .f32⟩
  | .local _ .vmem, ⟨10, _⟩ => ⟨S100x768, .f32⟩
  | .local _ .vmem, ⟨11, _⟩ => ⟨S1x768, .f32⟩
  | .local _ .vmem, ⟨12, _⟩ => ⟨S1x768, .f32⟩
  | .local _ .vmem, ⟨13, _⟩ => ⟨S256x768, .f32⟩
  | .local _ .vmem, ⟨14, _⟩ => ⟨S1x768, .f32⟩
  | .local _ .vmem, ⟨15, _⟩ => ⟨S1x100, .f32⟩
  | .local _ .vmem, ⟨16, _⟩ => ⟨S1x256, .f32⟩
  | .local _ .vmem, ⟨17, _⟩ => ⟨S1x1, .f32⟩
  | .local _ .vmem, ⟨18, _⟩ => ⟨S64x128x256, .f32⟩
  | .local _ .vmem, ⟨19, _⟩ => ⟨S64x128x256, .f32⟩
  | .local _ .vmem, ⟨20, _⟩ => ⟨S1x1, .f32⟩
  | .local _ .vmem, ⟨21, _⟩ => ⟨S1x100, .f32⟩
  | .local _ .vmem, ⟨22, _⟩ => ⟨S1x64, .f32⟩
  | .local _ .vmem, ⟨23, _⟩ => ⟨S1x128x256, .f32⟩
  | .local _ .vmem, ⟨24, _⟩ => ⟨S64x128x256, .f32⟩
  | .local _ .vmem, ⟨25, _⟩ => ⟨S64x128x256, .f32⟩
  | .local _ .vmem, ⟨26, _⟩ => ⟨S1x100, .f32⟩
  | .local _ .vmem, ⟨27, _⟩ => ⟨S1x64, .f32⟩
  | .local _ .vmem, ⟨28, _⟩ => ⟨S1x128, .f32⟩
  | .local _ .vmem, ⟨29, _⟩ => ⟨S128x256, .f32⟩
  | .local _ .vmem, ⟨30, _⟩ => ⟨S128x256, .f32⟩
  | .local _ .smem, ⟨0, _⟩ => ⟨S64, .i32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev main_v18_3 : Ref sig .tc := ⟨.hbm, 39, rfl⟩
abbrev main_v18_4 : Ref sig .tc := ⟨.hbm, 40, rfl⟩
abbrev main_v19 : Ref sig .tc := ⟨.hbm, 41, rfl⟩
abbrev main_v20 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg18_1 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem18_1 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c64_i32 : BitVec 32 := 64#32
  let v26 : BitVec 32 := Scalar.addi c0_i32_17 c64_i32
  let c1_i32 : BitVec 32 := 1#32
  ⟨c0_i32_17, v26, c1_i32⟩
def k0_off1 (k0_t1 : Fin k0_t1_loop.trips) : Fin 1 → Nat :=
  let c0_i32_17 : BitVec 32 := 0#32
  let c1_i32 : BitVec 32 := 1#32
  let arg31 : BitVec 32 := Scf.iv c0_i32_17 c1_i32 k0_t1
  let v146 : Index := Scalar.indexCast arg31
  ![v146.toNat]
def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_9 : BitVec 32 := 0#32
  let c64_i32 : BitVec 32 := 64#32
  let v12 : BitVec 32 := Scalar.addi c0_i32_9 c64_i32
  let c1_i32 : BitVec 32 := 1#32
  ⟨c0_i32_9, v12, c1_i32⟩
def k0_off2 (k0_t2 : Fin k0_t2_loop.trips) : Fin 1 → Nat :=
  let c0_i32_9 : BitVec 32 := 0#32
  let c1_i32 : BitVec 32 := 1#32
  let arg31 : BitVec 32 := Scf.iv c0_i32_9 c1_i32 k0_t2
  let v13 : Index := Scalar.indexCast arg31
  ![v13.toNat]
def k0_off3 (i : grid0.Coords) (v14 : BitVec 32) : Fin 3 → Nat :=
  let arg0 : BitVec 32 := BitVec.ofNat 32 (i 0).val
  let c64_i32_11 : BitVec 32 := 64#32
  let v15 : BitVec 32 := Scalar.muli arg0 c64_i32_11
  let v16 : BitVec 32 := Scalar.subi v14 v15
  let v32 : Index := Scalar.indexCast v16
  let c0_20 : Index := 0#32
  let c0_21 : Index := 0#32
  ![v32.toNat, 0, 0]
def k0_cond3 (i : grid0.Coords) (v14 : BitVec 32) : BitVec 1 :=
  let arg0 : BitVec 32 := BitVec.ofNat 32 (i 0).val
  let c64_i32_11 : BitVec 32 := 64#32
  let v15 : BitVec 32 := Scalar.muli arg0 c64_i32_11
  let v16 : BitVec 32 := Scalar.subi v14 v15
  let c0_i32_12 : BitVec 32 := 0#32
  let v17 : BitVec 1 := Scalar.cmpi .sge v16 c0_i32_12
  let c64_i32_13 : BitVec 32 := 64#32
  let v18 : BitVec 1 := Scalar.cmpi .slt v16 c64_i32_13
  let v19 : BitVec 1 := Scalar.andi v17 v18
  let v20 : BitVec 32 := Scalar.extui v19
  let c0_i32_14 : BitVec 32 := 0#32
  let v21 : BitVec 1 := Scalar.cmpi .ne v20 c0_i32_14
  v21

def k0_chk1 (i : grid0.Coords) (v14 : BitVec 32) : Prop :=
  (∀ (k0_h2 : k0_cond2 i = 1#1), ∀ (k0_h3 : k0_cond3 i v14 = 1#1), ∀ a, (k0_off3 i v14) a + S1x128x256.size a ≤ S64x128x256.size a)
theorem k0_off3_inb : ∀ (i : grid0.Coords) (v14 : BitVec 32) (k0_hw1 : k0_chk1 i v14), ∀ (k0_h2 : k0_cond2 i = 1#1), ∀ (k0_h3 : k0_cond3 i v14 = 1#1), ∀ a, (k0_off3 i v14) a + S1x128x256.size a ≤ S64x128x256.size a := fun i v14 k0_hw1 k0_h2 k0_h3 => k0_hw1 k0_h2 k0_h3

def k0_cond4 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S100x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x100 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S64x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x100 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S64x128x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceIdeal.lean ====
abbrev S128 : Shape := ⟨1, ![128]⟩
abbrev S1x768 : Shape := ⟨2, ![1, 768]⟩
abbrev S1 : Shape := ⟨1, ![1]⟩
abbrev S1x128x256 : Shape := ⟨3, ![1, 128, 256]⟩
abbrev S2048x100 : Shape := ⟨2, ![2048, 100]⟩
abbrev S2048x128x256 : Shape := ⟨3, ![2048, 128, 256]⟩
abbrev S100x768 : Shape := ⟨2, ![100, 768]⟩
abbrev S100 : Shape := ⟨1, ![100]⟩
abbrev S64x128 : Shape := ⟨2, ![64, 128]⟩
abbrev S64 : Shape := ⟨1, ![64]⟩
abbrev S128x64 : Shape := ⟨2, ![128, 64]⟩
abbrev S1x356 : Shape := ⟨2, ![1, 356]⟩
abbrev S768x101 : Shape := ⟨2, ![768, 101]⟩
abbrev S768x256 : Shape := ⟨2, ![768, 256]⟩
abbrev S768 : Shape := ⟨1, ![768]⟩
abbrev S768x100 : Shape := ⟨2, ![768, 100]⟩
abbrev S1x100 : Shape := ⟨2, ![1, 100]⟩
abbrev S1x128 : Shape := ⟨2, ![1, 128]⟩
abbrev S1x64 : Shape := ⟨2, ![1, 64]⟩
abbrev S100x1 : Shape := ⟨2, ![100, 1]⟩
abbrev S2048x1 : Shape := ⟨2, ![2048, 1]⟩
abbrev S2048 : Shape := ⟨1, ![2048]⟩
abbrev S_ : Shape := ⟨0, ![]⟩
abbrev S1x1 : Shape := ⟨2, ![1, 1]⟩
abbrev S2048x32768 : Shape := ⟨2, ![2048, 32768]⟩
abbrev S64x1 : Shape := ⟨2, ![64, 1]⟩
abbrev S64x32768 : Shape := ⟨2, ![64, 32768]⟩
abbrev S1x32768 : Shape := ⟨2, ![1, 32768]⟩
abbrev S32768 : Shape := ⟨1, ![32768]⟩
abbrev S128x1 : Shape := ⟨2, ![128, 1]⟩
abbrev S128x256 : Shape := ⟨2, ![128, 256]⟩
abbrev S1x256 : Shape := ⟨2, ![1, 256]⟩
abbrev S256 : Shape := ⟨1, ![256]⟩
abbrev S356 : Shape := ⟨1, ![356]⟩
abbrev S356x1 : Shape := ⟨2, ![356, 1]⟩
abbrev S101 : Shape := ⟨1, ![101]⟩
abbrev S1x101 : Shape := ⟨2, ![1, 101]⟩
abbrev S128x101 : Shape := ⟨2, ![128, 101]⟩
abbrev S101x768 : Shape := ⟨2, ![101, 768]⟩
abbrev S128x768 : Shape := ⟨2, ![128, 768]⟩
abbrev S256x768 : Shape := ⟨2, ![256, 768]⟩
abbrev S2049x100 : Shape := ⟨2, ![2049, 100]⟩
abbrev S2049x128x256 : Shape := ⟨3, ![2049, 128, 256]⟩

abbrev nBuf : Space → Nat
  | .hbm => 155
  | .vmem => 0
  | .smem => 0
  | _ => 0

abbrev hbmTy0_0 (i : Nat) : BufTy := match i % 128 with
  | 0 => ⟨S128, .f32⟩
  | 1 => ⟨S1x768, .f32⟩
  | 2 => ⟨S1, .f32⟩
  | 3 => ⟨S1, .f32⟩
  | 4 => ⟨S1x128x256, .f32⟩
  | 5 => ⟨S2048x100, .f32⟩
  | 6 => ⟨S2048x128x256, .f32⟩
  | 7 => ⟨S100x768, .f32⟩
  | 8 => ⟨S100, .f32⟩
  | 9 => ⟨S64x128, .f32⟩
  | 10 => ⟨S64, .f32⟩
  | 11 => ⟨S128x64, .f32⟩
  | 12 => ⟨S1x356, .f32⟩
  | 13 => ⟨S1, .f32⟩
  | 14 => ⟨S768x101, .f32⟩
  | 15 => ⟨S768x256, .f32⟩
  | 16 => ⟨S768, .f32⟩
  | 17 => ⟨S768, .f32⟩
  | 18 => ⟨S768x100, .f32⟩
  | 19 => ⟨S1x100, .f32⟩
  | 20 => ⟨S1x100, .f32⟩
  | 21 => ⟨S1x100, .f32⟩
  | 22 => ⟨S1x128, .f32⟩
  | 23 => ⟨S128x64, .f32⟩
  | 24 => ⟨S1x64, .f32⟩
  | 25 => ⟨S1x64, .f32⟩
  | 26 => ⟨S1x64, .f32⟩
  | 27 => ⟨S100x1, .f32⟩
  | 28 => ⟨S2048x1, .f32⟩
  | 29 => ⟨S2048, .f32⟩
  | 30 => ⟨S64, .f32⟩
  | 31 => ⟨S64, .i32⟩
  | 32 => ⟨S1x64, .f32⟩
  | 33 => ⟨S_, .f32⟩
  | 34 => ⟨S1, .f32⟩
  | 35 => ⟨S_, .f32⟩
  | 36 => ⟨S1, .f32⟩
  | 37 => ⟨S1, .f32⟩
  | 38 => ⟨S1x1, .f32⟩
  | 39 => ⟨S1x64, .f32⟩
  | 40 => ⟨S1x64, .f32⟩
  | 41 => ⟨S1x64, .f32⟩
  | 42 => ⟨S_, .f32⟩
  | 43 => ⟨S1, .f32⟩
  | 44 => ⟨S1x1, .f32⟩
  | 45 => ⟨S1x64, .f32⟩
  | 46 => ⟨S1x64, .f32⟩
  | 47 => ⟨S2048x32768, .f32⟩
  | 48 => ⟨S_, .i32⟩
  | 49 => ⟨S64, .i32⟩
  | 50 => ⟨S64, .i1⟩
  | 51 => ⟨S_, .i32⟩
  | 52 => ⟨S64, .i32⟩
  | 53 => ⟨S64, .i32⟩
  | 54 => ⟨S64, .i32⟩
  | 55 => ⟨S64x1, .i32⟩
  | 56 => ⟨S1, .i32⟩
  | 57 => ⟨S_, .i32⟩
  | 58 => ⟨S64x1, .i32⟩
  | 59 => ⟨S64x1, .i1⟩
  | 60 => ⟨S1x1, .i32⟩
  | 61 => ⟨S64x1, .i32⟩
  | 62 => ⟨S64x1, .i1⟩
  | 63 => ⟨S64x1, .i1⟩
  | 64 => ⟨S_, .i1⟩
  | 65 => ⟨S64, .i1⟩
  | 66 => ⟨S64x32768, .f32⟩
  | 67 => ⟨S64x32768, .i1⟩
  | 68 => ⟨S_, .f32⟩
  | 69 => ⟨S64x32768, .f32⟩
  | 70 => ⟨S64x32768, .f32⟩
  | 71 => ⟨S1x32768, .f32⟩
  | 72 => ⟨S32768, .f32⟩
  | 73 => ⟨S64x1, .f32⟩
  | 74 => ⟨S128x1, .f32⟩
  | 75 => ⟨S1x128, .f32⟩
  | 76 => ⟨S_, .f32⟩
  | 77 => ⟨S1, .f32⟩
  | 78 => ⟨S_, .f32⟩
  | 79 => ⟨S1, .f32⟩
  | 80 => ⟨S1, .f32⟩
  | 81 => ⟨S1x1, .f32⟩
  | 82 => ⟨S1x128, .f32⟩
  | 83 => ⟨S1x128, .f32⟩
  | 84 => ⟨S1x128, .f32⟩
  | 85 => ⟨S_, .f32⟩
  | 86 => ⟨S1, .f32⟩
  | 87 => ⟨S1x1, .f32⟩
  | 88 => ⟨S1x128, .f32⟩
  | 89 => ⟨S1x128, .f32⟩
  | 90 => ⟨S128x256, .f32⟩
  | 91 => ⟨S1x256, .f32⟩
  | 92 => ⟨S256, .f32⟩
  | 93 => ⟨S100, .f32⟩
  | 94 => ⟨S356, .f32⟩
  | 95 => ⟨S1x356, .f32⟩
  | 96 => ⟨S356x1, .f32⟩
  | 97 => ⟨S1x1, .f32⟩
  | 98 => ⟨S1x1, .f32⟩
  | 99 => ⟨S1x1, .f32⟩
  | 100 => ⟨S1, .f32⟩
  | 101 => ⟨S100, .f32⟩
  | 102 => ⟨S101, .f32⟩
  | 103 => ⟨S128x1, .f32⟩
  | 104 => ⟨S1x101, .f32⟩
  | 105 => ⟨S128x101, .f32⟩
  | 106 => ⟨S128x101, .f32⟩
  | 107 => ⟨S128x101, .f32⟩
  | 108 => ⟨S128x256, .f32⟩
  | 109 => ⟨S101x768, .f32⟩
  | 110 => ⟨S128x768, .f32⟩
  | 111 => ⟨S1x768, .f32⟩
  | 112 => ⟨S128x768, .f32⟩
  | 113 => ⟨S128x768, .f32⟩
  | 114 => ⟨S256x768, .f32⟩
  | 115 => ⟨S128x768, .f32⟩
  | 116 => ⟨S1x768, .f32⟩
  | 117 => ⟨S128x768, .f32⟩
  | 118 => ⟨S128x768, .f32⟩
  | 119 => ⟨S128x256, .f32⟩
  | 120 => ⟨S128x256, .f32⟩
  | 121 => ⟨S128x256, .f32⟩
  | 122 => ⟨S128x256, .f32⟩
  | 123 => ⟨S128x256, .f32⟩
  | 124 => ⟨S_, .f32⟩
  | 125 => ⟨S128x256, .f32⟩
  | 126 => ⟨S128x256, .f32⟩
  | 127 => ⟨S_, .f32⟩
  | _ => ⟨S128, .f32⟩

abbrev hbmTy0_1 (i : Nat) : BufTy := match i % 128 with
  | 0 => ⟨S128x256, .f32⟩
  | 1 => ⟨S128x256, .f32⟩
  | 2 => ⟨S128x256, .f32⟩
  | 3 => ⟨S128x256, .f32⟩
  | 4 => ⟨S128x256, .f32⟩
  | 5 => ⟨S128x256, .f32⟩
  | 6 => ⟨S128x256, .f32⟩
  | 7 => ⟨S_, .f32⟩
  | 8 => ⟨S128x256, .f32⟩
  | 9 => ⟨S128x256, .f32⟩
  | 10 => ⟨S_, .f32⟩
  | 11 => ⟨S128x256, .f32⟩
  | 12 => ⟨S128x256, .f32⟩
  | 13 => ⟨S128x256, .f32⟩
  | 14 => ⟨S128x256, .f32⟩
  | 15 => ⟨S128x256, .f32⟩
  | 16 => ⟨S128x256, .f32⟩
  | 17 => ⟨S128x256, .f32⟩
  | 18 => ⟨S_, .f32⟩
  | 19 => ⟨S128x256, .f32⟩
  | 20 => ⟨S128x256, .f32⟩
  | 21 => ⟨S128x256, .f32⟩
  | 22 => ⟨S128x256, .f32⟩
  | 23 => ⟨S128x256, .f32⟩
  | 24 => ⟨S1x128x256, .f32⟩
  | 25 => ⟨S2049x100, .f32⟩
  | 26 => ⟨S2049x128x256, .f32⟩
  | _ => ⟨S128, .f32⟩

abbrev hbmTy (i : Nat) : BufTy := match i / 128 with
  | 0 => hbmTy0_0 i
  | 1 => hbmTy0_1 i
  | _ => ⟨S128, .f32⟩

abbrev bufTy : (tb : Table) → Fin (tcTables nBuf tb) → BufTy
  | .hbm, ⟨i, _⟩ => hbmTy i
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_values : Ref sig .tc := ⟨.hbm, 30, rfl⟩
abbrev main_indices : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_call0_cst : Ref sig .tc := ⟨.hbm, 68, rfl⟩
abbrev main_call0_v15 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_2 : Ref sig .tc := ⟨.hbm, 76, rfl⟩
abbrev main_v31 : Ref sig .tc := ⟨.hbm, 77, rfl⟩
abbrev main_cst_3 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_4 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_5 : Ref sig .tc := ⟨.hbm, 124, rfl⟩
abbrev main_v76 : Ref sig .tc := ⟨.hbm, 125, rfl⟩
abbrev main_v77 : Ref sig .tc := ⟨.hbm, 126, rfl⟩
abbrev main_cst_6 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_7 : Ref sig .tc := ⟨.hbm, 135, rfl⟩
abbrev main_v85 : Ref sig .tc := ⟨.hbm, 136, rfl⟩
abbrev main_v86 : Ref sig .tc := ⟨.hbm, 137, rfl⟩
abbrev main_cst_8 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_9 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩

abbrev nD : Nat := 1
abbrev τ : Topo := Topo.v7x

variable {F : FTy → Type} [FloatOps F]
-- ==== Proof.Body.Loops.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.CellWrites
public import Idealize.ShloMosaic.Lib.VecWindow
public import Idealize.ShloMosaic.Lib.Pointwise.Index

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

theorem trips1 : k0_t1_loop.trips = 64 := by decide
theorem trips2 : k0_t2_loop.trips = 64 := by decide

/-- The offset of the word trip `k` of the selection loop stores is `k`. -/
theorem off1_eq : ∀ k : Fin k0_t1_loop.trips, k0_off1 k 0 = k.val := by decide
/-- The offset of the word trip `k` of the gather loop reads is `k`. -/
theorem off2_eq : ∀ k : Fin k0_t2_loop.trips, k0_off2 k 0 = k.val := by decide

/-- A word's place in block `i`: its distance from the block's first row. -/
def place (i : grid0.Coords) (v : BitVec 32) : ℕ := (v - BitVec.ofNat 32 (i 0).val * 64#32).toNat

/-- The gather loop's guard: the word's place is one of the block's 64 rows. -/
theorem cond3_iff (i : grid0.Coords) (v : BitVec 32) : k0_cond3 i v = 1#1 ↔ place i v < 64 := by
  have hb : ∀ b : BitVec 1, IntOp.cmpi .ne (Scalar.extui b) 0#32 = b := by decide
  have e : k0_cond3 i v = IntOp.andi (IntOp.cmpi .sge (v - BitVec.ofNat 32 (i 0).val * 64#32) 0#32)
      (IntOp.cmpi .slt (v - BitVec.ofNat 32 (i 0).val * 64#32) 64#32) := hb _
  rw [e, IntOp.andi_eq_one, IntOp.cmpi_sge, IntOp.cmpi_slt]
  unfold place
  generalize v - BitVec.ofNat 32 (i 0).val * 64#32 = w
  have h0 : (0#32).toInt = 0 := by decide
  have h64 : (64#32).toInt = 64 := by decide
  rw [h0, h64, BitVec.toInt_eq_toNat_cond]
  have := w.isLt
  split <;> omega

theorem off3_eq (i : grid0.Coords) (v : BitVec 32) : k0_off3 i v = ![place i v, 0, 0] := rfl

/-- The side condition of the row a trip reads holds of every word, since the guard bounds its place. -/
theorem chk (i : grid0.Coords) (v : BitVec 32) : k0_chk1 i v := by
  intro _ h3 a
  have h := (cond3_iff i v).mp h3
  rw [off3_eq]
  fin_cases a
  · show place i v + 1 ≤ 64; omega
  · show 0 + 128 ≤ 128; omega
  · show 0 + 256 ≤ 256; omega

/-! ## The selection loop -/

/-- What the selection loop carries before trip `k`: the scores with the entries already taken masked out, and the list
    of the scores taken so far. -/
def selSt (x : FVec F S1x2048 .f32) : ℕ → FVec F S1x2048 .f32 × FVec F S1x64 .f32
  | 0 => (x, k0_pay8)
  | k + 1 => if h : k < k0_t1_loop.trips then
      (k0_pay11 (selSt x k).1, k0_pay12 ⟨k, h⟩ (selSt x k).1 (selSt x k).2) else selSt x k

/-- The index taken at trip `k`. -/
def selWord (x : FVec F S1x2048 .f32) (k : ℕ) : BitVec 32 :=
  extractAt ![0, 0, 0] (k0_pay10 (selSt x k).1) inpos_S1x1x1_p0_0_0

/-- Every word the selection loop has stored before trip `k`. -/
def Stored (x : FVec F S1x2048 .f32) (k : ℕ) (g : S64.Idx → BitVec 32) : Prop :=
  ∀ j : S64.Idx, (j 0).val < k → g j = selWord x (j 0).val

section T1
variable (c : Dev nD) (i : grid0.Coords)
variable (arg1 : Memref sig .tc .vmem S1x768 .f32) (harg1 : arg1.IsWhole)
variable (arg2 : Memref sig .tc .vmem S1x128 .f32) (harg2 : arg2.IsWhole)
variable (arg3 : Memref sig .tc .vmem S1x1 .f32) (harg3 : arg3.IsWhole)
variable (arg4 : Memref sig .tc .vmem S128x256 .f32) (harg4 : arg4.IsWhole)
variable (arg5 : Memref sig .tc .vmem S100x2048 .f32) (harg5 : arg5.IsWhole)
variable (arg6 : Memref sig .tc .vmem S768x100 .f32) (harg6 : arg6.IsWhole)
variable (arg7 : Memref sig .tc .vmem S1x100 .f32) (harg7 : arg7.IsWhole)
variable (arg8 : Memref sig .tc .vmem S128x64 .f32) (harg8 : arg8.IsWhole)
variable (arg9 : Memref sig .tc .vmem S1x64 .f32) (harg9 : arg9.IsWhole)
variable (arg10 : Memref sig .tc .vmem S64x128 .f32) (harg10 : arg10.IsWhole)
variable (arg11 : Memref sig .tc .vmem S100x768 .f32) (harg11 : arg11.IsWhole)
variable (arg12 : Memref sig .tc .vmem S1x768 .f32) (harg12 : arg12.IsWhole)
variable (arg13 : Memref sig .tc .vmem S1x768 .f32) (harg13 : arg13.IsWhole)
variable (arg14 : Memref sig .tc .vmem S256x768 .f32) (harg14 : arg14.IsWhole)
variable (arg15 : Memref sig .tc .vmem S1x768 .f32) (harg15 : arg15.IsWhole)
variable (arg16 : Memref sig .tc .vmem S1x100 .f32) (harg16 : arg16.IsWhole)
variable (arg17 : Memref sig .tc .vmem S1x256 .f32) (harg17 : arg17.IsWhole)
variable (arg18 : Memref sig .tc .vmem S1x1 .f32) (harg18 : arg18.IsWhole)
variable (arg19 : Memref sig .tc .vmem S64x128x256 .f32) (harg19 : arg19.IsWhole)
variable (arg20 : Memref sig .tc .vmem S1x1 .f32) (harg20 : arg20.IsWhole)
variable (arg21 : Memref sig .tc .vmem S1x100 .f32) (harg21 : arg21.IsWhole)
variable (arg22 : Memref sig .tc .vmem S1x64 .f32) (harg22 : arg22.IsWhole)
variable (arg23 : Memref sig .tc .vmem S1x128x256 .f32) (harg23 : arg23.IsWhole)
variable (arg24 : Memref sig .tc .vmem S64x128x256 .f32) (harg24 : arg24.IsWhole)
variable (arg25 : Memref sig .tc .smem S64 .i32) (harg25 : arg25.IsWhole)
variable (arg26 : Memref sig .tc .vmem S1x100 .f32) (harg26 : arg26.IsWhole)
variable (arg27 : Memref sig .tc .vmem S1x64 .f32) (harg27 : arg27.IsWhole)
variable (arg28 : Memref sig .tc .vmem S1x128 .f32) (harg28 : arg28.IsWhole)
variable (arg29 : Memref sig .tc .vmem S128x256 .f32) (harg29 : arg29.IsWhole)
variable (arg30 : Memref sig .tc .vmem S128x256 .f32) (harg30 : arg30.IsWhole)

set_option warn.classDefReducibility false in
/-- The selection loop's invariant: the carried value is `selSt`, and the table holds the words of the trips run. -/
@[sl_loop] def loopInv1 (k0_h1 : k0_cond1 i = 1#1) (x : FVec F S1x2048 .f32) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 k0_h1 (x, k0_pay8) where
  inv k acc := iprop(⌜acc = selSt x k⌝ ∗ ∃ f, ⌜Stored x k (arg25.view.read (Elt F) f)⌝
    ∗ arg25.view.loc (c : Thread nD τ) ↦[arg25.view.set]{fullShare} f)
  step k acc := by
    unfold k0_t1_body
    iintro ⟨%hacc, %f, %hf, H⟩
    subst hacc
    sl_exec
    sl_step
    isplitl []
    · ipureintro
      simp only [selSt]
      rw [dif_pos k.isLt]
    iexists _; isplitr; swap; · iexact H
    ipureintro
    intro j hj
    refine (View.read_writes_cons_cell arg25.view f (k0_off1_inb i k k0_h1) _ [] j).trans ?_
    rw [off1_eq k]
    by_cases h : (j 0).val = k.val
    · rw [if_pos h, h]; rfl
    · rw [if_neg h]; exact hf j (by omega)
end T1

/-! ## The gather loop -/

/-- The row of block `X` a word points at. -/
def rowAt (i : grid0.Coords) (h2 : k0_cond2 i = 1#1) (v : BitVec 32) (h3 : k0_cond3 i v = 1#1)
    (X : FVec F S64x128x256 .f32) : FVec F S1x128x256 .f32 :=
  View.ld (Val := Elt F) (e' := .f32) X (Rect.unit (s := S64x128x256) (k0_off3 i v) S1x128x256.size (k0_off3_inb i v (chk i v) h2 h3))

/-- The word of trip `k`. -/
def wordAt (g : S64.Idx → BitVec 32) (k : Fin k0_t2_loop.trips) : BitVec 32 := g (ix1 (k.cast trips2))

/-- The accumulator after trip `k` of the gather loop, from its contents before: the row added, weighted, where the trip's
    word lies in the block. -/
def accTrip (i : grid0.Coords) (h2 : k0_cond2 i = 1#1) (g : S64.Idx → BitVec 32) (w : FVec F S1x64 .f32)
    (X : FVec F S64x128x256 .f32) (k : Fin k0_t2_loop.trips) (a : FVec F S128x256 .f32) : FVec F S128x256 .f32 :=
  if h3 : k0_cond3 i (wordAt g k) = 1#1 then k0_pay2 k w a (rowAt i h2 (wordAt g k) h3 X) else a

/-- The accumulator before trip `k`. -/
def accLoop (i : grid0.Coords) (h2 : k0_cond2 i = 1#1) (g : S64.Idx → BitVec 32) (w : FVec F S1x64 .f32)
    (X : FVec F S64x128x256 .f32) (a : FVec F S128x256 .f32) : ℕ → FVec F S128x256 .f32
  | 0 => a
  | k + 1 => if h : k < k0_t2_loop.trips then accTrip i h2 g w X ⟨k, h⟩ (accLoop i h2 g w X a k)
      else accLoop i h2 g w X a k

section T2
variable (c : Dev nD) (i : grid0.Coords)
variable (arg1 : Memref sig .tc .vmem S1x768 .f32) (harg1 : arg1.IsWhole)
variable (arg2 : Memref sig .tc .vmem S1x128 .f32) (harg2 : arg2.IsWhole)
variable (arg3 : Memref sig .tc .vmem S1x1 .f32) (harg3 : arg3.IsWhole)
variable (arg4 : Memref sig .tc .vmem S128x256 .f32) (harg4 : arg4.IsWhole)
variable (arg5 : Memref sig .tc .vmem S100x2048 .f32) (harg5 : arg5.IsWhole)
variable (arg6 : Memref sig .tc .vmem S768x100 .f32) (harg6 : arg6.IsWhole)
variable (arg7 : Memref sig .tc .vmem S1x100 .f32) (harg7 : arg7.IsWhole)
variable (arg8 : Memref sig .tc .vmem S128x64 .f32) (harg8 : arg8.IsWhole)
variable (arg9 : Memref sig .tc .vmem S1x64 .f32) (harg9 : arg9.IsWhole)
variable (arg10 : Memref sig .tc .vmem S64x128 .f32) (harg10 : arg10.IsWhole)
variable (arg11 : Memref sig .tc .vmem S100x768 .f32) (harg11 : arg11.IsWhole)
variable (arg12 : Memref sig .tc .vmem S1x768 .f32) (harg12 : arg12.IsWhole)
variable (arg13 : Memref sig .tc .vmem S1x768 .f32) (harg13 : arg13.IsWhole)
variable (arg14 : Memref sig .tc .vmem S256x768 .f32) (harg14 : arg14.IsWhole)
variable (arg15 : Memref sig .tc .vmem S1x768 .f32) (harg15 : arg15.IsWhole)
variable (arg16 : Memref sig .tc .vmem S1x100 .f32) (harg16 : arg16.IsWhole)
variable (arg17 : Memref sig .tc .vmem S1x256 .f32) (harg17 : arg17.IsWhole)
variable (arg18 : Memref sig .tc .vmem S1x1 .f32) (harg18 : arg18.IsWhole)
variable (arg19 : Memref sig .tc .vmem S64x128x256 .f32) (harg19 : arg19.IsWhole)
variable (arg20 : Memref sig .tc .vmem S1x1 .f32) (harg20 : arg20.IsWhole)
variable (arg21 : Memref sig .tc .vmem S1x100 .f32) (harg21 : arg21.IsWhole)
variable (arg22 : Memref sig .tc .vmem S1x64 .f32) (harg22 : arg22.IsWhole)
variable (arg23 : Memref sig .tc .vmem S1x128x256 .f32) (harg23 : arg23.IsWhole)
variable (arg24 : Memref sig .tc .vmem S64x128x256 .f32) (harg24 : arg24.IsWhole)
variable (arg25 : Memref sig .tc .smem S64 .i32) (harg25 : arg25.IsWhole)
variable (arg26 : Memref sig .tc .vmem S1x100 .f32) (harg26 : arg26.IsWhole)
variable (arg27 : Memref sig .tc .vmem S1x64 .f32) (harg27 : arg27.IsWhole)
variable (arg28 : Memref sig .tc .vmem S1x128 .f32) (harg28 : arg28.IsWhole)
variable (arg29 : Memref sig .tc .vmem S128x256 .f32) (harg29 : arg29.IsWhole)
variable (arg30 : Memref sig .tc .vmem S128x256 .f32) (harg30 : arg30.IsWhole)

set_option warn.classDefReducibility false in
/-- The gather loop's invariant: table, weights and block as they were, the accumulator `accLoop`. -/
@[sl_loop] def loopInv2 (k0_h2 : k0_cond2 i = 1#1) (f25 : Buf (Elt F) (arg25.view.loc (c : Thread nD τ)))
    (f27 : Buf (Elt F) (arg27.view.loc (c : Thread nD τ))) (f19 : Buf (Elt F) (arg19.view.loc (c : Thread nD τ)))
    (f30 : Buf (Elt F) (arg30.view.loc (c : Thread nD τ))) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 k0_h2 where
  inv k _ := iprop((arg25.view.loc (c : Thread nD τ) ↦[arg25.view.set]{fullShare} f25) ∗ (arg27.view.loc (c : Thread nD τ) ↦[arg27.view.set]{fullShare} f27)
    ∗ (arg19.view.loc (c : Thread nD τ) ↦[arg19.view.set]{fullShare} f19)
    ∗ ∃ f, ⌜arg30.view.read (Elt F) f = accLoop i k0_h2 (arg25.view.read (Elt F) f25) (arg27.view.read (Elt F) f27)
        (arg19.view.read (Elt F) f19) (arg30.view.read (Elt F) f30) k⌝ ∗ arg30.view.loc (c : Thread nD τ) ↦[arg30.view.set]{fullShare} f)
  step k acc := by
    unfold k0_t2_body
    iintro ⟨H25, H27, H19, %f, %hf, H⟩
    have hchk : ∀ v, k0_chk1 i v := chk i
    sl_exec
    sl_step
    isplitl [H25]; · iexact H25
    isplitl [H27]; · iexact H27
    isplitl [H19]; · iexact H19
    iexists _; isplitr; swap; · iexact H
    ipureintro
    have hr : loopInv2.sl.r c i arg25 k0_h2 f25 k = wordAt (arg25.view.read (Elt F) f25) k := by
      unfold loopInv2.sl.r wordAt
      refine congrArg (View.read (Elt F) arg25.view f25) (funext fun a => Fin.ext ?_)
      fin_cases a
      show k0_off2 k 0 + 1 * 0 = k.val
      rw [off2_eq k]; rfl
    simp only [accLoop]
    rw [dif_pos k.isLt, ← hf]
    unfold accTrip
    rw [← hr]
    split
    · rw [View.read_writes_full, View.readAt_full, View.readAt_full]; rfl
    · rfl
end T2

end Cert.KernelIdeal.Hand

end
-- ==== Proof.Body.First.lean ====
/-
  What the kernel's body does at the first grid point: it computes everything that does not need the history — the topic
  vector, the 64 best rows and their weights, the attention over the concepts, the new hidden state — and clears the
  accumulator; then it copies the first block of the history and gathers from it.
-/
module

public import proofs.«01_k».proof.Proof.Body.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-! ## What the first point computes, from what its input windows hold -/

/-- The list of the 64 best scores, in the order taken. -/
def topVals (x : FVec F S1x2048 .f32) : FVec F S1x64 .f32 := (selSt x k0_t1_loop.trips).2

/-- The table of the rows taken. -/
def idxTab (x : FVec F S1x2048 .f32) : S64.Idx → BitVec 32 := fun j => selWord x (j 0).val

/-- The attention weights of the concepts, as the hidden state's update reads them. -/
abbrev newHid (x1 : FVec F S1x768 .f32) (x2 : FVec F S1x128 .f32) (x3 : FVec F S1x1 .f32) (x4 : FVec F S128x256 .f32)
    (x6 : FVec F S768x100 .f32) (x7 : FVec F S1x100 .f32) (x8 : FVec F S128x64 .f32) (x9 : FVec F S1x64 .f32)
    (x10 : FVec F S64x128 .f32) (x11 : FVec F S100x768 .f32) (x12 x13 : FVec F S1x768 .f32) (x14 : FVec F S256x768 .f32)
    (x15 : FVec F S1x768 .f32) : FVec F S128x256 .f32 :=
  k0_pay20 (k0_pay15 x2 x8 x9 x10) (k0_pay17 (k0_pay5 x1 x6 x7) x11) (k0_pay18 x3) x12 x13 x4 x14 x15

/-- The same hidden state with a leading axis of one, as its output window takes it. -/
abbrev newHid3 (x1 : FVec F S1x768 .f32) (x2 : FVec F S1x128 .f32) (x3 : FVec F S1x1 .f32) (x4 : FVec F S128x256 .f32)
    (x6 : FVec F S768x100 .f32) (x7 : FVec F S1x100 .f32) (x8 : FVec F S128x64 .f32) (x9 : FVec F S1x64 .f32)
    (x10 : FVec F S64x128 .f32) (x11 : FVec F S100x768 .f32) (x12 x13 : FVec F S1x768 .f32) (x14 : FVec F S256x768 .f32)
    (x15 : FVec F S1x768 .f32) : FVec F S1x128x256 .f32 :=
  k0_pay21 (k0_pay15 x2 x8 x9 x10) (k0_pay17 (k0_pay5 x1 x6 x7) x11) (k0_pay18 x3) x12 x13 x4 x14 x15

/-- The accumulator after a point that gathers. -/
def accStep (i : grid0.Coords) (h2 : k0_cond2 i = 1#1) (g : S64.Idx → BitVec 32) (w : FVec F S1x64 .f32)
    (X : FVec F S64x128x256 .f32) (a : FVec F S128x256 .f32) : FVec F S128x256 .f32 :=
  accLoop i h2 g w X a k0_t2_loop.trips

/-- A table every word of which is stored is the table of the rows taken. -/
theorem Stored.eq {x : FVec F S1x2048 .f32} {g : S64.Idx → BitVec 32} (h : Stored x k0_t1_loop.trips g) : g = idxTab x :=
  funext fun j => h j (by rw [trips1]; exact (j 0).isLt)

section
variable (c : Dev nD) (i : grid0.Coords)
variable (arg1 : Memref sig .tc .vmem S1x768 .f32) (harg1 : arg1.IsWhole)
variable (arg2 : Memref sig .tc .vmem S1x128 .f32) (harg2 : arg2.IsWhole)
variable (arg3 : Memref sig .tc .vmem S1x1 .f32) (harg3 : arg3.IsWhole)
variable (arg4 : Memref sig .tc .vmem S128x256 .f32) (harg4 : arg4.IsWhole)
variable (arg5 : Memref sig .tc .vmem S100x2048 .f32) (harg5 : arg5.IsWhole)
variable (arg6 : Memref sig .tc .vmem S768x100 .f32) (harg6 : arg6.IsWhole)
variable (arg7 : Memref sig .tc .vmem S1x100 .f32) (harg7 : arg7.IsWhole)
variable (arg8 : Memref sig .tc .vmem S128x64 .f32) (harg8 : arg8.IsWhole)
variable (arg9 : Memref sig .tc .vmem S1x64 .f32) (harg9 : arg9.IsWhole)
variable (arg10 : Memref sig .tc .vmem S64x128 .f32) (harg10 : arg10.IsWhole)
variable (arg11 : Memref sig .tc .vmem S100x768 .f32) (harg11 : arg11.IsWhole)
variable (arg12 : Memref sig .tc .vmem S1x768 .f32) (harg12 : arg12.IsWhole)
variable (arg13 : Memref sig .tc .vmem S1x768 .f32) (harg13 : arg13.IsWhole)
variable (arg14 : Memref sig .tc .vmem S256x768 .f32) (harg14 : arg14.IsWhole)
variable (arg15 : Memref sig .tc .vmem S1x768 .f32) (harg15 : arg15.IsWhole)
variable (arg16 : Memref sig .tc .vmem S1x100 .f32) (harg16 : arg16.IsWhole)
variable (arg17 : Memref sig .tc .vmem S1x256 .f32) (harg17 : arg17.IsWhole)
variable (arg18 : Memref sig .tc .vmem S1x1 .f32) (harg18 : arg18.IsWhole)
variable (arg19 : Memref sig .tc .vmem S64x128x256 .f32) (harg19 : arg19.IsWhole)
variable (arg20 : Memref sig .tc .vmem S1x1 .f32) (harg20 : arg20.IsWhole)
variable (arg21 : Memref sig .tc .vmem S1x100 .f32) (harg21 : arg21.IsWhole)
variable (arg22 : Memref sig .tc .vmem S1x64 .f32) (harg22 : arg22.IsWhole)
variable (arg23 : Memref sig .tc .vmem S1x128x256 .f32) (harg23 : arg23.IsWhole)
variable (arg24 : Memref sig .tc .vmem S64x128x256 .f32) (harg24 : arg24.IsWhole)
variable (arg25 : Memref sig .tc .smem S64 .i32) (harg25 : arg25.IsWhole)
variable (arg26 : Memref sig .tc .vmem S1x100 .f32) (harg26 : arg26.IsWhole)
variable (arg27 : Memref sig .tc .vmem S1x64 .f32) (harg27 : arg27.IsWhole)
variable (arg28 : Memref sig .tc .vmem S1x128 .f32) (harg28 : arg28.IsWhole)
variable (arg29 : Memref sig .tc .vmem S128x256 .f32) (harg29 : arg29.IsWhole)
variable (arg30 : Memref sig .tc .vmem S128x256 .f32) (harg30 : arg30.IsWhole)

set_option maxHeartbeats 400000 in
/-- The body at the first point. -/
theorem body_first (h1 : k0_cond1 i = 1#1) (h2 : k0_cond2 i = 1#1) (h4 : ¬ k0_cond4 i = 1#1)
    (x1 : FVec F S1x768 .f32) (x2 : FVec F S1x128 .f32) (x3 : FVec F S1x1 .f32) (x4 : FVec F S128x256 .f32) (x5 : FVec F S100x2048 .f32) (x6 : FVec F
      S768x100 .f32) (x7 : FVec F S1x100 .f32) (x8 : FVec F S128x64 .f32) (x9 : FVec F S1x64 .f32) (x10 : FVec F S64x128 .f32) (x11 : FVec F S100x768 .f32)
      (x12 : FVec F S1x768 .f32) (x13 : FVec F S1x768 .f32) (x14 : FVec F S256x768 .f32) (x15 : FVec F S1x768 .f32) (x19 : FVec F S64x128x256 .f32) (Q : PUnit → sProp 𝕄) :
    iprop(owns (c : Thread nD τ) arg1 fullShare x1 ∗ owns (c : Thread nD τ) arg2 fullShare x2 ∗ owns (c : Thread nD τ) arg3 fullShare x3 ∗ owns (c : Thread nD
      τ) arg4 fullShare x4 ∗ owns (c : Thread nD τ) arg5 fullShare x5 ∗ owns (c : Thread nD τ) arg6 fullShare x6 ∗ owns (c : Thread nD τ) arg7 fullShare x7
      ∗ owns (c : Thread nD τ) arg8 fullShare x8 ∗ owns (c : Thread nD τ) arg9 fullShare x9 ∗ owns (c : Thread nD τ) arg10 fullShare x10 ∗ owns (c : Thread
      nD τ) arg11 fullShare x11 ∗ owns (c : Thread nD τ) arg12 fullShare x12 ∗ owns (c : Thread nD τ) arg13 fullShare x13 ∗ owns (c : Thread nD τ) arg14
      fullShare x14 ∗ owns (c : Thread nD τ) arg15 fullShare x15 ∗ owns (c : Thread nD τ) arg19 fullShare x19 ∗ (∃ X, owns (c : Thread nD τ) arg21 fullShare
      X) ∗ (∃ X, owns (c : Thread nD τ) arg22 fullShare X) ∗ (∃ X, owns (c : Thread nD τ) arg23 fullShare X) ∗ (∃ X, owns (c : Thread nD τ) arg24 fullShare
      X) ∗ (∃ X, owns (c : Thread nD τ) arg25 fullShare X) ∗ (∃ X, owns (c : Thread nD τ) arg26 fullShare X) ∗ (∃ X, owns (c : Thread nD τ) arg27 fullShare
      X) ∗ (∃ X, owns (c : Thread nD τ) arg28 fullShare X) ∗ (∃ X, owns (c : Thread nD τ) arg29 fullShare X) ∗ (∃ X, owns (c : Thread nD τ) arg30 fullShare
      X)
      ∗ ((owns (c : Thread nD τ) arg1 fullShare x1 ∗ owns (c : Thread nD τ) arg2 fullShare x2 ∗ owns (c : Thread nD τ) arg3 fullShare x3 ∗ owns (c : Thread nD
      τ) arg4 fullShare x4 ∗ owns (c : Thread nD τ) arg5 fullShare x5 ∗ owns (c : Thread nD τ) arg6 fullShare x6 ∗ owns (c : Thread nD τ) arg7 fullShare x7
      ∗ owns (c : Thread nD τ) arg8 fullShare x8 ∗ owns (c : Thread nD τ) arg9 fullShare x9 ∗ owns (c : Thread nD τ) arg10 fullShare x10 ∗ owns (c : Thread
      nD τ) arg11 fullShare x11 ∗ owns (c : Thread nD τ) arg12 fullShare x12 ∗ owns (c : Thread nD τ) arg13 fullShare x13 ∗ owns (c : Thread nD τ) arg14
      fullShare x14 ∗ owns (c : Thread nD τ) arg15 fullShare x15 ∗ owns (c : Thread nD τ) arg19 fullShare x19 ∗ owns (c : Thread nD τ) arg21 fullShare
      (k0_pay5 x1 x6 x7) ∗ owns (c : Thread nD τ) arg22 fullShare (k0_pay13 (topVals (k0_pay7 x1 x6 x7 x5))) ∗ owns (c : Thread nD τ) arg23 fullShare
      (newHid3 x1 x2 x3 x4 x6 x7 x8 x9 x10 x11 x12 x13 x14 x15) ∗ owns (c : Thread nD τ) arg24 fullShare x19 ∗ owns (c : Thread nD τ) arg25 fullShare
      (idxTab (k0_pay7 x1 x6 x7 x5)) ∗ owns (c : Thread nD τ) arg26 fullShare (k0_pay6 x1 x6 x7) ∗ owns (c : Thread nD τ) arg27 fullShare (k0_pay14
      (k0_pay13 (topVals (k0_pay7 x1 x6 x7 x5)))) ∗ owns (c : Thread nD τ) arg28 fullShare (k0_pay16 x2 x8 x9 x10) ∗ owns (c : Thread nD τ) arg29 fullShare
      (newHid x1 x2 x3 x4 x6 x7 x8 x9 x10 x11 x12 x13 x14 x15) ∗ owns (c : Thread nD τ) arg30 fullShare (accStep i h2 (idxTab (k0_pay7 x1 x6 x7 x5))
      (k0_pay14 (k0_pay13 (topVals (k0_pay7 x1 x6 x7 x5)))) x19 k0_pay1))
        -∗ Q ⟨⟩))
    ⊢ wp frame (wpE (defs₀ (F := F)) Variants.none c none) Set.univ (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) Q := by
  simp only [cc0__fused_kernel_eq_skeleton, k0_part1_eq_skeleton, k0_part2_eq_skeleton, k0_part3_eq_skeleton]
  unfold cc0__fused_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f19, %e19, H19⟩, ⟨%X21, %f21, %e21, H21⟩, ⟨%X22, %f22, %e22, H22⟩, ⟨%X23, %f23, %e23, H23⟩, ⟨%X24, %f24, %e24, H24⟩, ⟨%X25, %f25, %e25, H25⟩, ⟨%X26, %f26, %e26, H26⟩, ⟨%X27, %f27, %e27, H27⟩, ⟨%X28, %f28, %e28, H28⟩, ⟨%X29, %f29, %e29, H29⟩, ⟨%X30, %f30, %e30, H30⟩, Hk⟩
  have hst : Stored (k0_pay7 (View.readAt (Elt F) arg1.view (Rect.unit ![0, 0] S1x768.size inb_S1x768_S1x768_0_0).toLoadRect f1)
      (View.readAt (Elt F) arg6.view (Rect.unit ![0, 0] S768x100.size inb_S768x100_S768x100_0_0).toLoadRect f6)
      (View.readAt (Elt F) arg7.view (Rect.unit ![0, 0] S1x100.size inb_S1x100_S1x100_0_0).toLoadRect f7)
      (View.readAt (Elt F) arg5.view (Rect.unit ![0, 0] S100x2048.size inb_S100x2048_S100x2048_0_0).toLoadRect f5))
      0 (arg25.view.read (Elt F) f25) := fun _ h => absurd h (Nat.not_lt_zero _)
  sl_exec
  sl_step
  iapply Hk
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists f12; isplitr; swap; · iexact H12
    ipureintro; exact e12
  isplitl [H13]
  · iexists f13; isplitr; swap; · iexact H13
    ipureintro; exact e13
  isplitl [H14]
  · iexists f14; isplitr; swap; · iexact H14
    ipureintro; exact e14
  isplitl [H15]
  · iexists f15; isplitr; swap; · iexact H15
    ipureintro; exact e15
  isplitl [H19]
  · iexists f19; isplitr; swap; · iexact H19
    ipureintro; exact e19
  isplitl [H21]
  · iexists _; isplitr; swap; · iexact H21
    ipureintro
    unfold body_first.sl.H21_1; rw [View.read_writes_full]
    (try delta body_first.sl.r_8); (try delta body_first.sl.r_7); (try delta body_first.sl.r_6); (try delta body_first.sl.r_5); (try delta body_first.sl.r_4); (try delta body_first.sl.r_3); (try delta body_first.sl.r_2); (try delta body_first.sl.r_1); (try delta body_first.sl.r)
    repeat rw [View.readAt_full]
    subst e1 e2 e3 e4 e5 e6 e7 e8 e9 e10 e11 e12 e13 e14 e15 e19; (try unfold topVals); first | with_reducible rfl | rfl
  isplitl [H22]
  · iexists _; isplitr; swap; · iexact H22
    ipureintro
    unfold body_first.sl.H22_1; rw [View.read_writes_full]
    (try delta body_first.sl.r_8); (try delta body_first.sl.r_7); (try delta body_first.sl.r_6); (try delta body_first.sl.r_5); (try delta body_first.sl.r_4); (try delta body_first.sl.r_3); (try delta body_first.sl.r_2); (try delta body_first.sl.r_1); (try delta body_first.sl.r)
    repeat rw [View.readAt_full]
    subst e1 e2 e3 e4 e5 e6 e7 e8 e9 e10 e11 e12 e13 e14 e15 e19; (try unfold topVals); first | with_reducible rfl | rfl
  isplitl [H23]
  · iexists _; isplitr; swap; · iexact H23
    ipureintro
    unfold body_first.sl.H23_1; rw [View.read_writes_full]
    (try delta body_first.sl.r_8); (try delta body_first.sl.r_7); (try delta body_first.sl.r_6); (try delta body_first.sl.r_5); (try delta body_first.sl.r_4); (try delta body_first.sl.r_3); (try delta body_first.sl.r_2); (try delta body_first.sl.r_1); (try delta body_first.sl.r)
    repeat rw [View.readAt_full]
    subst e1 e2 e3 e4 e5 e6 e7 e8 e9 e10 e11 e12 e13 e14 e15 e19; (try unfold topVals); first | with_reducible rfl | rfl
  isplitl [H24]
  · iexists _; isplitr; swap; · iexact H24
    ipureintro
    unfold body_first.sl.H24_1
    (try delta body_first.sl.r)
    rw [View.read_writes_full, View.readAt_full, e19]
  isplitl [H25]
  · iexists _; isplitr; swap; · iexact H25
    ipureintro
    rw [Stored.eq hL1]
    repeat rw [View.readAt_full]
    subst e1 e2 e3 e4 e5 e6 e7 e8 e9 e10 e11 e12 e13 e14 e15 e19; (try unfold topVals); first | with_reducible rfl | rfl
  isplitl [H26]
  · iexists _; isplitr; swap; · iexact H26
    ipureintro
    unfold body_first.sl.H26_1; rw [View.read_writes_full]
    (try delta body_first.sl.r_8); (try delta body_first.sl.r_7); (try delta body_first.sl.r_6); (try delta body_first.sl.r_5); (try delta body_first.sl.r_4); (try delta body_first.sl.r_3); (try delta body_first.sl.r_2); (try delta body_first.sl.r_1); (try delta body_first.sl.r)
    repeat rw [View.readAt_full]
    subst e1 e2 e3 e4 e5 e6 e7 e8 e9 e10 e11 e12 e13 e14 e15 e19; (try unfold topVals); first | with_reducible rfl | rfl
  isplitl [H27]
  · iexists _; isplitr; swap; · iexact H27
    ipureintro
    unfold body_first.sl.H27_1; rw [View.read_writes_full]
    (try delta body_first.sl.r_8); (try delta body_first.sl.r_7); (try delta body_first.sl.r_6); (try delta body_first.sl.r_5); (try delta body_first.sl.r_4); (try delta body_first.sl.r_3); (try delta body_first.sl.r_2); (try delta body_first.sl.r_1); (try delta body_first.sl.r)
    repeat rw [View.readAt_full]
    subst e1 e2 e3 e4 e5 e6 e7 e8 e9 e10 e11 e12 e13 e14 e15 e19; (try unfold topVals); first | with_reducible rfl | rfl
  isplitl [H28]
  · iexists _; isplitr; swap; · iexact H28
    ipureintro
    unfold body_first.sl.H28_1; rw [View.read_writes_full]
    (try delta body_first.sl.r_8); (try delta body_first.sl.r_7); (try delta body_first.sl.r_6); (try delta body_first.sl.r_5); (try delta body_first.sl.r_4); (try delta body_first.sl.r_3); (try delta body_first.sl.r_2); (try delta body_first.sl.r_1); (try delta body_first.sl.r)
    repeat rw [View.readAt_full]
    subst e1 e2 e3 e4 e5 e6 e7 e8 e9 e10 e11 e12 e13 e14 e15 e19; (try unfold topVals); first | with_reducible rfl | rfl
  isplitl [H29]
  · iexists _; isplitr; swap; · iexact H29
    ipureintro
    unfold body_first.sl.H29_1; rw [View.read_writes_full]
    (try delta body_first.sl.r_8); (try delta body_first.sl.r_7); (try delta body_first.sl.r_6); (try delta body_first.sl.r_5); (try delta body_first.sl.r_4); (try delta body_first.sl.r_3); (try delta body_first.sl.r_2); (try delta body_first.sl.r_1); (try delta body_first.sl.r)
    repeat rw [View.readAt_full]
    subst e1 e2 e3 e4 e5 e6 e7 e8 e9 e10 e11 e12 e13 e14 e15 e19; (try unfold topVals); first | with_reducible rfl | rfl
  iexists _; isplitr; swap; · iexact H30
  ipureintro
  rw [hL6, Stored.eq hL1]
  unfold body_first.sl.H27_1 body_first.sl.H30_1
  rw [View.read_writes_full, View.read_writes_full]
  (try delta body_first.sl.r_8); (try delta body_first.sl.r_7); (try delta body_first.sl.r_6); (try delta body_first.sl.r_5); (try delta body_first.sl.r_4); (try delta body_first.sl.r_3); (try delta body_first.sl.r_2); (try delta body_first.sl.r_1); (try delta body_first.sl.r)
  repeat rw [View.readAt_full]
  unfold accStep
  subst e1 e2 e3 e4 e5 e6 e7 e8 e9 e10 e11 e12 e13 e14 e15 e19; (try unfold topVals); first | with_reducible rfl | rfl
end

end Cert.KernelIdeal.Hand

end
-- ==== Proof.Body.Later.lean ====
/-
  What the kernel's body does at the grid points after the first: at each of the points 1 to 31 it copies a block of the
  history and gathers from it; at the last point it appends the new hidden state and computes the prediction.
-/
module

public import proofs.«01_k».proof.Proof.Body.First

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

section
variable (c : Dev nD) (i : grid0.Coords)
variable (arg1 : Memref sig .tc .vmem S1x768 .f32) (harg1 : arg1.IsWhole)
variable (arg2 : Memref sig .tc .vmem S1x128 .f32) (harg2 : arg2.IsWhole)
variable (arg3 : Memref sig .tc .vmem S1x1 .f32) (harg3 : arg3.IsWhole)
variable (arg4 : Memref sig .tc .vmem S128x256 .f32) (harg4 : arg4.IsWhole)
variable (arg5 : Memref sig .tc .vmem S100x2048 .f32) (harg5 : arg5.IsWhole)
variable (arg6 : Memref sig .tc .vmem S768x100 .f32) (harg6 : arg6.IsWhole)
variable (arg7 : Memref sig .tc .vmem S1x100 .f32) (harg7 : arg7.IsWhole)
variable (arg8 : Memref sig .tc .vmem S128x64 .f32) (harg8 : arg8.IsWhole)
variable (arg9 : Memref sig .tc .vmem S1x64 .f32) (harg9 : arg9.IsWhole)
variable (arg10 : Memref sig .tc .vmem S64x128 .f32) (harg10 : arg10.IsWhole)
variable (arg11 : Memref sig .tc .vmem S100x768 .f32) (harg11 : arg11.IsWhole)
variable (arg12 : Memref sig .tc .vmem S1x768 .f32) (harg12 : arg12.IsWhole)
variable (arg13 : Memref sig .tc .vmem S1x768 .f32) (harg13 : arg13.IsWhole)
variable (arg14 : Memref sig .tc .vmem S256x768 .f32) (harg14 : arg14.IsWhole)
variable (arg15 : Memref sig .tc .vmem S1x768 .f32) (harg15 : arg15.IsWhole)
variable (arg16 : Memref sig .tc .vmem S1x100 .f32) (harg16 : arg16.IsWhole)
variable (arg17 : Memref sig .tc .vmem S1x256 .f32) (harg17 : arg17.IsWhole)
variable (arg18 : Memref sig .tc .vmem S1x1 .f32) (harg18 : arg18.IsWhole)
variable (arg19 : Memref sig .tc .vmem S64x128x256 .f32) (harg19 : arg19.IsWhole)
variable (arg20 : Memref sig .tc .vmem S1x1 .f32) (harg20 : arg20.IsWhole)
variable (arg21 : Memref sig .tc .vmem S1x100 .f32) (harg21 : arg21.IsWhole)
variable (arg22 : Memref sig .tc .vmem S1x64 .f32) (harg22 : arg22.IsWhole)
variable (arg23 : Memref sig .tc .vmem S1x128x256 .f32) (harg23 : arg23.IsWhole)
variable (arg24 : Memref sig .tc .vmem S64x128x256 .f32) (harg24 : arg24.IsWhole)
variable (arg25 : Memref sig .tc .smem S64 .i32) (harg25 : arg25.IsWhole)
variable (arg26 : Memref sig .tc .vmem S1x100 .f32) (harg26 : arg26.IsWhole)
variable (arg27 : Memref sig .tc .vmem S1x64 .f32) (harg27 : arg27.IsWhole)
variable (arg28 : Memref sig .tc .vmem S1x128 .f32) (harg28 : arg28.IsWhole)
variable (arg29 : Memref sig .tc .vmem S128x256 .f32) (harg29 : arg29.IsWhole)
variable (arg30 : Memref sig .tc .vmem S128x256 .f32) (harg30 : arg30.IsWhole)

set_option maxHeartbeats 1000000 in
/-- The body at a point that only copies a block and gathers from it. -/
theorem body_mid (h1 : ¬ k0_cond1 i = 1#1) (h2 : k0_cond2 i = 1#1) (h4 : ¬ k0_cond4 i = 1#1)
    (x19 : FVec F S64x128x256 .f32) (x25 : S64.Idx → BitVec 32) (x27 : FVec F S1x64 .f32) (y24 : FVec F S64x128x256 .f32) (y30 : FVec F S128x256 .f32) (Q : PUnit → sProp 𝕄) :
    iprop(owns (c : Thread nD τ) arg19 fullShare x19 ∗ owns (c : Thread nD τ) arg25 fullShare x25 ∗ owns (c : Thread nD τ) arg27 fullShare x27 ∗ owns (c :
      Thread nD τ) arg24 fullShare y24 ∗ owns (c : Thread nD τ) arg30 fullShare y30
      ∗ ((owns (c : Thread nD τ) arg19 fullShare x19 ∗ owns (c : Thread nD τ) arg25 fullShare x25 ∗ owns (c : Thread nD τ) arg27 fullShare x27 ∗ owns (c :
      Thread nD τ) arg24 fullShare x19 ∗ owns (c : Thread nD τ) arg30 fullShare (accStep i h2 x25 x27 x19 y30))
        -∗ Q ⟨⟩))
    ⊢ wp frame (wpE (defs₀ (F := F)) Variants.none c none) Set.univ (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) Q := by
  simp only [cc0__fused_kernel_eq_skeleton]
  unfold cc0__fused_kernel_skel
  unfold owns
  iintro ⟨⟨%f19, %e19, H19⟩, ⟨%f25, %e25, H25⟩, ⟨%f27, %e27, H27⟩, ⟨%f24, %e24, H24⟩, ⟨%f30, %e30, H30⟩, Hk⟩
  sl_exec
  sl_step
  iapply Hk
  isplitl [H19]
  · iexists f19; isplitr; swap; · iexact H19
    ipureintro; exact e19
  isplitl [H25]
  · iexists f25; isplitr; swap; · iexact H25
    ipureintro; exact e25
  isplitl [H27]
  · iexists f27; isplitr; swap; · iexact H27
    ipureintro; exact e27
  isplitl [H24]
  · iexists _; isplitr; swap; · iexact H24
    ipureintro
    unfold body_mid.sl.H24_1
    (try delta body_mid.sl.r)
    rw [View.read_writes_full, View.readAt_full, e19]
  iexists _; isplitr; swap; · iexact H30
  ipureintro
  rw [hL3]
  subst e19 e25 e27 e30; first | with_reducible rfl | rfl

set_option maxHeartbeats 1000000 in
/-- The body at the last point. -/
theorem body_last (h1 : ¬ k0_cond1 i = 1#1) (h2 : ¬ k0_cond2 i = 1#1) (h4 : k0_cond4 i = 1#1)
    (x16 : FVec F S1x100 .f32) (x17 : FVec F S1x256 .f32) (x18 : FVec F S1x1 .f32) (x26 : FVec F S1x100 .f32) (x28 : FVec F S1x128 .f32) (x29 : FVec F
      S128x256 .f32) (x30 : FVec F S128x256 .f32) (y20 : FVec F S1x1 .f32) (y24 : FVec F S64x128x256 .f32) (Q : PUnit → sProp 𝕄) :
    iprop(owns (c : Thread nD τ) arg16 fullShare x16 ∗ owns (c : Thread nD τ) arg17 fullShare x17 ∗ owns (c : Thread nD τ) arg18 fullShare x18 ∗ owns (c :
      Thread nD τ) arg26 fullShare x26 ∗ owns (c : Thread nD τ) arg28 fullShare x28 ∗ owns (c : Thread nD τ) arg29 fullShare x29 ∗ owns (c : Thread nD τ)
      arg30 fullShare x30 ∗ owns (c : Thread nD τ) arg20 fullShare y20 ∗ owns (c : Thread nD τ) arg24 fullShare y24
      ∗ ((owns (c : Thread nD τ) arg16 fullShare x16 ∗ owns (c : Thread nD τ) arg17 fullShare x17 ∗ owns (c : Thread nD τ) arg18 fullShare x18 ∗ owns (c :
      Thread nD τ) arg26 fullShare x26 ∗ owns (c : Thread nD τ) arg28 fullShare x28 ∗ owns (c : Thread nD τ) arg29 fullShare x29 ∗ owns (c : Thread nD τ)
      arg30 fullShare x30 ∗ owns (c : Thread nD τ) arg20 fullShare (k0_pay4 x28 x30 x26 x16 x17 x18) ∗ owns (c : Thread nD τ) arg24 fullShare (VecWindow.put
      y24 ![0, 0, 0] S1x128x256.size (k0_pay3 x29)))
        -∗ Q ⟨⟩))
    ⊢ wp frame (wpE (defs₀ (F := F)) Variants.none c none) Set.univ (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) Q := by
  simp only [cc0__fused_kernel_eq_skeleton]
  unfold cc0__fused_kernel_skel
  unfold owns
  iintro ⟨⟨%f16, %e16, H16⟩, ⟨%f17, %e17, H17⟩, ⟨%f18, %e18, H18⟩, ⟨%f26, %e26, H26⟩, ⟨%f28, %e28, H28⟩, ⟨%f29, %e29, H29⟩, ⟨%f30, %e30, H30⟩, ⟨%f20, %e20, H20⟩, ⟨%f24, %e24, H24⟩, Hk⟩
  sl_exec
  sl_step
  iapply Hk
  isplitl [H16]
  · iexists f16; isplitr; swap; · iexact H16
    ipureintro; exact e16
  isplitl [H17]
  · iexists f17; isplitr; swap; · iexact H17
    ipureintro; exact e17
  isplitl [H18]
  · iexists f18; isplitr; swap; · iexact H18
    ipureintro; exact e18
  isplitl [H26]
  · iexists f26; isplitr; swap; · iexact H26
    ipureintro; exact e26
  isplitl [H28]
  · iexists f28; isplitr; swap; · iexact H28
    ipureintro; exact e28
  isplitl [H29]
  · iexists f29; isplitr; swap; · iexact H29
    ipureintro; exact e29
  isplitl [H30]
  · iexists f30; isplitr; swap; · iexact H30
    ipureintro; exact e30
  isplitl [H20]
  · iexists _; isplitr; swap; · iexact H20
    ipureintro

    rw [View.read_writes_full]
    repeat rw [View.readAt_full]
    subst e16 e17 e18 e26 e28 e29 e30; first | with_reducible rfl | rfl
  iexists _; isplitr; swap; · iexact H24
  ipureintro

  rw [View.read_writes_cons_put _ _ _ _ _ rfl, View.writes_nil, View.readAt_full, e24, e29]
end

end Cert.KernelIdeal.Hand

end
-- ==== Proof.Body.Data.lean ====
/-
  The proof data of the region: what every window holds after the body at every grid point, and the invariant that the
  scratch buffers are held to between points — after the first point the table of the rows taken, the topic vector, the
  weights, the attention and the new hidden state stay as the first point left them, and the accumulator holds the weighted
  rows of the blocks gathered so far.
-/
module

public import proofs.«01_k».proof.Proof.Body.Later

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (c : Dev nD)

/-- The first grid point. -/
def pt0 : Fin cfg0.N := ⟨0, by decide⟩
/-- The last grid point. -/
def pt32 : Fin cfg0.N := ⟨32, by decide⟩

theorem cond1_iff : ∀ t : Fin cfg0.N, k0_cond1 (grid0.coords t) = 1#1 ↔ t.val = 0 := by decide
theorem cond2_iff : ∀ t : Fin cfg0.N, k0_cond2 (grid0.coords t) = 1#1 ↔ t.val < 32 := by decide
theorem cond4_iff : ∀ t : Fin cfg0.N, k0_cond4 (grid0.coords t) = 1#1 ↔ t.val = 32 := by decide

/-! ## The input windows' blocks -/

/-- What window 0 holds at the first point. -/
abbrev in1 : FVec F S1x768 .f32 := iblk m c 0 pt0
/-- What window 1 holds at the first point. -/
abbrev in2 : FVec F S1x128 .f32 := iblk m c 1 pt0
/-- What window 2 holds at the first point. -/
abbrev in3 : FVec F S1x1 .f32 := iblk m c 2 pt0
/-- What window 3 holds at the first point. -/
abbrev in4 : FVec F S128x256 .f32 := iblk m c 3 pt0
/-- What window 4 holds at the first point. -/
abbrev in5 : FVec F S100x2048 .f32 := iblk m c 4 pt0
/-- What window 5 holds at the first point. -/
abbrev in6 : FVec F S768x100 .f32 := iblk m c 5 pt0
/-- What window 6 holds at the first point. -/
abbrev in7 : FVec F S1x100 .f32 := iblk m c 6 pt0
/-- What window 7 holds at the first point. -/
abbrev in8 : FVec F S128x64 .f32 := iblk m c 7 pt0
/-- What window 8 holds at the first point. -/
abbrev in9 : FVec F S1x64 .f32 := iblk m c 8 pt0
/-- What window 9 holds at the first point. -/
abbrev in10 : FVec F S64x128 .f32 := iblk m c 9 pt0
/-- What window 10 holds at the first point. -/
abbrev in11 : FVec F S100x768 .f32 := iblk m c 10 pt0
/-- What window 11 holds at the first point. -/
abbrev in12 : FVec F S1x768 .f32 := iblk m c 11 pt0
/-- What window 12 holds at the first point. -/
abbrev in13 : FVec F S1x768 .f32 := iblk m c 12 pt0
/-- What window 13 holds at the first point. -/
abbrev in14 : FVec F S256x768 .f32 := iblk m c 13 pt0
/-- What window 14 holds at the first point. -/
abbrev in15 : FVec F S1x768 .f32 := iblk m c 14 pt0
/-- What window 15 holds at the last point. -/
abbrev in16 : FVec F S1x100 .f32 := iblk m c 15 pt32
/-- What window 16 holds at the last point. -/
abbrev in17 : FVec F S1x256 .f32 := iblk m c 16 pt32
/-- What window 17 holds at the last point. -/
abbrev in18 : FVec F S1x1 .f32 := iblk m c 17 pt32
/-- The block of the history at a point. -/
abbrev hsBlk (t : Fin cfg0.N) : FVec F S64x128x256 .f32 := iblk m c 18 t

/-! ## What the kernel computes -/

/-- The scores the selection starts from. -/
abbrev scoreV : FVec F S1x2048 .f32 := k0_pay7 (in1 m c) (in6 m c) (in7 m c) (in5 m c)
/-- The table of the rows taken. -/
abbrev tabV : S64.Idx → BitVec 32 := idxTab (scoreV m c)
/-- The topic vector, as its output takes it. -/
abbrev topicV : FVec F S1x100 .f32 := k0_pay5 (in1 m c) (in6 m c) (in7 m c)
/-- The topic vector, as the scratch keeps it. -/
abbrev topicS : FVec F S1x100 .f32 := k0_pay6 (in1 m c) (in6 m c) (in7 m c)
/-- The weights of the rows taken, as their output takes them. -/
abbrev wtV : FVec F S1x64 .f32 := k0_pay13 (topVals (scoreV m c))
/-- The weights, as the scratch keeps them. -/
abbrev wtS : FVec F S1x64 .f32 := k0_pay14 (wtV m c)
/-- The attention over the concepts. -/
abbrev alphaV : FVec F S1x128 .f32 := k0_pay16 (in2 m c) (in8 m c) (in9 m c) (in10 m c)
/-- The new hidden state. -/
abbrev hidV : FVec F S128x256 .f32 := newHid (in1 m c) (in2 m c) (in3 m c) (in4 m c) (in6 m c) (in7 m c) (in8 m c) (in9 m c) (in10 m c) (in11 m c)
    (in12 m c) (in13 m c) (in14 m c) (in15 m c)
/-- The new hidden state, as its output takes it. -/
abbrev hidV3 : FVec F S1x128x256 .f32 := newHid3 (in1 m c) (in2 m c) (in3 m c) (in4 m c) (in6 m c) (in7 m c) (in8 m c) (in9 m c) (in10 m c) (in11 m c)
    (in12 m c) (in13 m c) (in14 m c) (in15 m c)

/-- The accumulator before point `n`, for `n` at least one. -/
def accAt : ℕ → FVec F S128x256 .f32
  | 0 => k0_pay1
  | n + 1 => if h : n < cfg0.N then
      if h2 : k0_cond2 (grid0.coords ⟨n, h⟩) = 1#1 then
        accStep (grid0.coords ⟨n, h⟩) h2 (tabV m c) (wtS m c) (hsBlk m c ⟨n, h⟩) (accAt n)
      else accAt n
    else accAt n

theorem accAt_succ (t : Fin cfg0.N) (h2 : k0_cond2 (grid0.coords t) = 1#1) :
    accAt m c (t.val + 1) = accStep (grid0.coords t) h2 (tabV m c) (wtS m c) (hsBlk m c t) (accAt m c t.val) := by
  rw [accAt, dif_pos t.isLt, dif_pos h2]

theorem accAt_last (t : Fin cfg0.N) (h2 : ¬ k0_cond2 (grid0.coords t) = 1#1) :
    accAt m c (t.val + 1) = accAt m c t.val := by
  rw [accAt, dif_pos t.isLt, dif_neg h2]

/-- The prediction. -/
abbrev predV : FVec F S1x1 .f32 :=
  k0_pay4 (alphaV m c) (accAt m c 32) (topicS m c) (in16 m c) (in17 m c) (in18 m c)

/-- The block of the extended history a point writes: the history's block, or at the last point a block whose first row is
    the new hidden state. -/
def histV (t : Fin cfg0.N) : FVec F S64x128x256 .f32 :=
  if t.val < 32 then hsBlk m c t else VecWindow.put (hsBlk m c t) ![0, 0, 0] S1x128x256.size (k0_pay3 (hidV m c))

/-! ## The invariant -/

/-- The scratch buffers and the generator register before point `n`. -/
def PhiS (n : ℕ) : sProp 𝕄 :=
  if n = 0 then Pipeline.ΦA (U := UR sig nD τ) spec0 c else
  iprop(owns (c : Thread nD τ) (Memref.whole cc0_scratch0) fullShare (tabV m c)
    ∗ owns (c : Thread nD τ) (Memref.whole cc0_scratch1) fullShare (topicS m c)
    ∗ owns (c : Thread nD τ) (Memref.whole cc0_scratch2) fullShare (wtS m c)
    ∗ owns (c : Thread nD τ) (Memref.whole cc0_scratch3) fullShare (alphaV m c)
    ∗ owns (c : Thread nD τ) (Memref.whole cc0_scratch4) fullShare (hidV m c)
    ∗ owns (c : Thread nD τ) (Memref.whole cc0_scratch5) fullShare (accAt m c n)
    ∗ ∃ r, prngReg c r)

/-- What each window holds after the body at point `t`. -/
def afterV (w : Fin cfg0.W) (t : Fin cfg0.N) : (cfg0.win w).block.Idx → Elt F (cfg0.win w).elt :=
  match w with
  | 0 => iblk m c 0 t
  | 1 => iblk m c 1 t
  | 2 => iblk m c 2 t
  | 3 => iblk m c 3 t
  | 4 => iblk m c 4 t
  | 5 => iblk m c 5 t
  | 6 => iblk m c 6 t
  | 7 => iblk m c 7 t
  | 8 => iblk m c 8 t
  | 9 => iblk m c 9 t
  | 10 => iblk m c 10 t
  | 11 => iblk m c 11 t
  | 12 => iblk m c 12 t
  | 13 => iblk m c 13 t
  | 14 => iblk m c 14 t
  | 15 => iblk m c 15 t
  | 16 => iblk m c 16 t
  | 17 => iblk m c 17 t
  | 18 => iblk m c 18 t
  | 19 => predV m c
  | 20 => topicV m c
  | 21 => wtV m c
  | 22 => hidV3 m c
  | 23 => histV m c t
  | ⟨_ + 24, h⟩ => absurd h (Nat.not_lt.2 (Nat.le_add_left _ _))

/-- The proof data. -/
def dats (_ : Fin 1) (c : Dev nD) : Dat τ (Elt F) Unit ℕ (UR sig nD τ) ℕ cfg0 c where
  A w := V m c (Pipeline.arrRef spec0 w)
  after w t := afterV m c w t
  Φ t := PhiS m c t.val
  q _ := fullShare
  owed _ := 0

theorem A_eq (c : Dev nD) (w : Fin cfg0.W) : (dats m 0 c).A w = V m c (Pipeline.arrRef spec0 w) := by dsimp only [dats]
theorem before_0 (t : Fin cfg0.N) (d) : (dats m 0 c).before 0 t d = iblk m c 0 t :=
  before0_0_of m (dats m 0 c) (A_eq m c 0) (fun _ => by dsimp only [dats, afterV]) t d
theorem before_1 (t : Fin cfg0.N) (d) : (dats m 0 c).before 1 t d = iblk m c 1 t :=
  before0_1_of m (dats m 0 c) (A_eq m c 1) (fun _ => by dsimp only [dats, afterV]) t d
theorem before_2 (t : Fin cfg0.N) (d) : (dats m 0 c).before 2 t d = iblk m c 2 t :=
  before0_2_of m (dats m 0 c) (A_eq m c 2) (fun _ => by dsimp only [dats, afterV]) t d
theorem before_3 (t : Fin cfg0.N) (d) : (dats m 0 c).before 3 t d = iblk m c 3 t :=
  before0_3_of m (dats m 0 c) (A_eq m c 3) (fun _ => by dsimp only [dats, afterV]) t d
theorem before_4 (t : Fin cfg0.N) (d) : (dats m 0 c).before 4 t d = iblk m c 4 t :=
  before0_4_of m (dats m 0 c) (A_eq m c 4) (fun _ => by dsimp only [dats, afterV]) t d
theorem before_5 (t : Fin cfg0.N) (d) : (dats m 0 c).before 5 t d = iblk m c 5 t :=
  before0_5_of m (dats m 0 c) (A_eq m c 5) (fun _ => by dsimp only [dats, afterV]) t d
theorem before_6 (t : Fin cfg0.N) (d) : (dats m 0 c).before 6 t d = iblk m c 6 t :=
  before0_6_of m (dats m 0 c) (A_eq m c 6) (fun _ => by dsimp only [dats, afterV]) t d
theorem before_7 (t : Fin cfg0.N) (d) : (dats m 0 c).before 7 t d = iblk m c 7 t :=
  before0_7_of m (dats m 0 c) (A_eq m c 7) (fun _ => by dsimp only [dats, afterV]) t d
theorem before_8 (t : Fin cfg0.N) (d) : (dats m 0 c).before 8 t d = iblk m c 8 t :=
  before0_8_of m (dats m 0 c) (A_eq m c 8) (fun _ => by dsimp only [dats, afterV]) t d
theorem before_9 (t : Fin cfg0.N) (d) : (dats m 0 c).before 9 t d = iblk m c 9 t :=
  before0_9_of m (dats m 0 c) (A_eq m c 9) (fun _ => by dsimp only [dats, afterV]) t d
theorem before_10 (t : Fin cfg0.N) (d) : (dats m 0 c).before 10 t d = iblk m c 10 t :=
  before0_10_of m (dats m 0 c) (A_eq m c 10) (fun _ => by dsimp only [dats, afterV]) t d
theorem before_11 (t : Fin cfg0.N) (d) : (dats m 0 c).before 11 t d = iblk m c 11 t :=
  before0_11_of m (dats m 0 c) (A_eq m c 11) (fun _ => by dsimp only [dats, afterV]) t d
theorem before_12 (t : Fin cfg0.N) (d) : (dats m 0 c).before 12 t d = iblk m c 12 t :=
  before0_12_of m (dats m 0 c) (A_eq m c 12) (fun _ => by dsimp only [dats, afterV]) t d
theorem before_13 (t : Fin cfg0.N) (d) : (dats m 0 c).before 13 t d = iblk m c 13 t :=
  before0_13_of m (dats m 0 c) (A_eq m c 13) (fun _ => by dsimp only [dats, afterV]) t d
theorem before_14 (t : Fin cfg0.N) (d) : (dats m 0 c).before 14 t d = iblk m c 14 t :=
  before0_14_of m (dats m 0 c) (A_eq m c 14) (fun _ => by dsimp only [dats, afterV]) t d
theorem before_15 (t : Fin cfg0.N) (d) : (dats m 0 c).before 15 t d = iblk m c 15 t :=
  before0_15_of m (dats m 0 c) (A_eq m c 15) (fun _ => by dsimp only [dats, afterV]) t d
theorem before_16 (t : Fin cfg0.N) (d) : (dats m 0 c).before 16 t d = iblk m c 16 t :=
  before0_16_of m (dats m 0 c) (A_eq m c 16) (fun _ => by dsimp only [dats, afterV]) t d
theorem before_17 (t : Fin cfg0.N) (d) : (dats m 0 c).before 17 t d = iblk m c 17 t :=
  before0_17_of m (dats m 0 c) (A_eq m c 17) (fun _ => by dsimp only [dats, afterV]) t d
theorem before_18 (t : Fin cfg0.N) (d) : (dats m 0 c).before 18 t d = iblk m c 18 t :=
  before0_18_of m (dats m 0 c) (A_eq m c 18) (fun _ => by dsimp only [dats, afterV]) t d

/-! ## What the windows are left with -/

section
variable {cfg : Pipeline.Cfg sig Λ₀} {c : Dev nD} (dat : Dat τ (Elt F) Unit ℕ (UR sig nD τ) ℕ cfg c)

/-- A window stored at a point, or written back after it, is left at what the data names. -/
theorem leaves_after (w : Fin cfg.W) (t : Fin cfg.N)
    (h : cfg.idle w (cfg.grid.coords t) = false ∨ (cfg.win w).flush t = true) (hl : cfg.loose w = false) :
    dat.leaves w t = owns c ((cfg.win w).stage (cfg.slots t w)) fullShare (dat.after w t) := by
  unfold Dat.leaves
  rcases h with h | h
  · rw [h, hl]
  · rw [h, hl]; cases cfg.idle w (cfg.grid.coords t) <;> rfl

/-- A window stored at a point and described on its moved part only. -/
theorem leaves_loose (w : Fin cfg.W) (t : Fin cfg.N) (h : cfg.idle w (cfg.grid.coords t) = false) (hl : cfg.loose w = true) :
    dat.leaves w t = iprop(∃ d, owns c ((cfg.win w).stage (cfg.slots t w)) fullShare
      ((cfg.win w).fill (cfg.grid.coords t) d ((cfg.win w).cut (cfg.grid.coords t) (dat.after w t)))) := by
  unfold Dat.leaves; rw [h, hl]

/-- An output stored at the first point only, and written back only after point `N`, holds at every later point what it was
    left with at the first. -/
theorem before_stays (w : Fin cfg.W) (hw : (cfg.win w).isOut = true) (N : ℕ)
    (h0 : ∀ t : Fin cfg.N, t.val = 0 → cfg.idle w (cfg.grid.coords t) = false)
    (h1 : ∀ t : Fin cfg.N, t.val ≠ 0 → cfg.idle w (cfg.grid.coords t) = true)
    (hfl : ∀ t : Fin cfg.N, t.val < N → (cfg.win w).flush t = false)
    (hclip : ∀ (i : cfg.grid.Coords) a, (cfg.win w).clip i a = none)
    (X : (cfg.win w).block.Idx → Elt F (cfg.win w).elt) (hX : ∀ t, dat.after w t = X) :
    ∀ (n : ℕ) (t : Fin cfg.N), t.val = n → n ≠ 0 → n ≤ N → ∀ d, dat.before w t d = X := by
  intro n
  induction n with
  | zero => intro t _ h; exact absurd rfl h
  | succ n ih =>
    intro t ht _ hN d
    rw [dat.before_of_pos w t (by omega) ((cfg.win w).fetch_out hw t), hfl _ (by show t.val - 1 < N; omega),
      if_neg Bool.false_ne_true]
    by_cases hn : n = 0
    · unfold Dat.left
      rw [h0 _ (by show t.val - 1 = 0; omega)]
      show dat.kept w _ d = X
      unfold Dat.kept
      rw [Pipeline.fill_of_clip_none w _ (hclip _) d (dat.after w _), Pipeline.Window.fill_cut, hX]
    · unfold Dat.left
      rw [h1 _ (by show t.val - 1 ≠ 0; omega)]
      exact ih _ (by show t.val - 1 = n; omega) hn (by omega) d
end

end Cert.KernelIdeal.Hand

end
-- ==== Proof.Body.Obligation.lean ====
/-
  The body's obligation at every grid point: the three runs of the body put into the shape the pipeline asks, window by
  window.
-/
module

public import proofs.«01_k».proof.Proof.Body.Data

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (c : Dev nD)

/-! ## What each window is left with -/

theorem left_0 (t : Fin cfg0.N) : (dats m 0 c).leaves 0 t = owns (c : Thread nD τ) (win0_0.stage (cfg0.slots t 0)) fullShare (iblk m c 0 t) :=
  (leaves_after (dats m 0 c) 0 t (.inl rfl) rfl).trans (by dsimp only [dats, afterV])
theorem left_1 (t : Fin cfg0.N) : (dats m 0 c).leaves 1 t = owns (c : Thread nD τ) (win0_1.stage (cfg0.slots t 1)) fullShare (iblk m c 1 t) :=
  (leaves_after (dats m 0 c) 1 t (.inl rfl) rfl).trans (by dsimp only [dats, afterV])
theorem left_2 (t : Fin cfg0.N) : (dats m 0 c).leaves 2 t = owns (c : Thread nD τ) (win0_2.stage (cfg0.slots t 2)) fullShare (iblk m c 2 t) :=
  (leaves_after (dats m 0 c) 2 t (.inl rfl) rfl).trans (by dsimp only [dats, afterV])
theorem left_3 (t : Fin cfg0.N) : (dats m 0 c).leaves 3 t = owns (c : Thread nD τ) (win0_3.stage (cfg0.slots t 3)) fullShare (iblk m c 3 t) :=
  (leaves_after (dats m 0 c) 3 t (.inl rfl) rfl).trans (by dsimp only [dats, afterV])
theorem left_4 (t : Fin cfg0.N) : (dats m 0 c).leaves 4 t = owns (c : Thread nD τ) (win0_4.stage (cfg0.slots t 4)) fullShare (iblk m c 4 t) :=
  (leaves_after (dats m 0 c) 4 t (.inl rfl) rfl).trans (by dsimp only [dats, afterV])
theorem left_5 (t : Fin cfg0.N) : (dats m 0 c).leaves 5 t = owns (c : Thread nD τ) (win0_5.stage (cfg0.slots t 5)) fullShare (iblk m c 5 t) :=
  (leaves_after (dats m 0 c) 5 t (.inl rfl) rfl).trans (by dsimp only [dats, afterV])
theorem left_6 (t : Fin cfg0.N) : (dats m 0 c).leaves 6 t = owns (c : Thread nD τ) (win0_6.stage (cfg0.slots t 6)) fullShare (iblk m c 6 t) :=
  (leaves_after (dats m 0 c) 6 t (.inl rfl) rfl).trans (by dsimp only [dats, afterV])
theorem left_7 (t : Fin cfg0.N) : (dats m 0 c).leaves 7 t = owns (c : Thread nD τ) (win0_7.stage (cfg0.slots t 7)) fullShare (iblk m c 7 t) :=
  (leaves_after (dats m 0 c) 7 t (.inl rfl) rfl).trans (by dsimp only [dats, afterV])
theorem left_8 (t : Fin cfg0.N) : (dats m 0 c).leaves 8 t = owns (c : Thread nD τ) (win0_8.stage (cfg0.slots t 8)) fullShare (iblk m c 8 t) :=
  (leaves_after (dats m 0 c) 8 t (.inl rfl) rfl).trans (by dsimp only [dats, afterV])
theorem left_9 (t : Fin cfg0.N) : (dats m 0 c).leaves 9 t = owns (c : Thread nD τ) (win0_9.stage (cfg0.slots t 9)) fullShare (iblk m c 9 t) :=
  (leaves_after (dats m 0 c) 9 t (.inl rfl) rfl).trans (by dsimp only [dats, afterV])
theorem left_10 (t : Fin cfg0.N) : (dats m 0 c).leaves 10 t = owns (c : Thread nD τ) (win0_10.stage (cfg0.slots t 10)) fullShare (iblk m c 10 t) :=
  (leaves_after (dats m 0 c) 10 t (.inl rfl) rfl).trans (by dsimp only [dats, afterV])
theorem left_11 (t : Fin cfg0.N) : (dats m 0 c).leaves 11 t = owns (c : Thread nD τ) (win0_11.stage (cfg0.slots t 11)) fullShare (iblk m c 11 t) :=
  (leaves_after (dats m 0 c) 11 t (.inl rfl) rfl).trans (by dsimp only [dats, afterV])
theorem left_12 (t : Fin cfg0.N) : (dats m 0 c).leaves 12 t = owns (c : Thread nD τ) (win0_12.stage (cfg0.slots t 12)) fullShare (iblk m c 12 t) :=
  (leaves_after (dats m 0 c) 12 t (.inl rfl) rfl).trans (by dsimp only [dats, afterV])
theorem left_13 (t : Fin cfg0.N) : (dats m 0 c).leaves 13 t = owns (c : Thread nD τ) (win0_13.stage (cfg0.slots t 13)) fullShare (iblk m c 13 t) :=
  (leaves_after (dats m 0 c) 13 t (.inl rfl) rfl).trans (by dsimp only [dats, afterV])
theorem left_14 (t : Fin cfg0.N) : (dats m 0 c).leaves 14 t = owns (c : Thread nD τ) (win0_14.stage (cfg0.slots t 14)) fullShare (iblk m c 14 t) :=
  (leaves_after (dats m 0 c) 14 t (.inl rfl) rfl).trans (by dsimp only [dats, afterV])
theorem left_15 (t : Fin cfg0.N) : (dats m 0 c).leaves 15 t = owns (c : Thread nD τ) (win0_15.stage (cfg0.slots t 15)) fullShare (iblk m c 15 t) :=
  (leaves_after (dats m 0 c) 15 t (.inl rfl) rfl).trans (by dsimp only [dats, afterV])
theorem left_16 (t : Fin cfg0.N) : (dats m 0 c).leaves 16 t = owns (c : Thread nD τ) (win0_16.stage (cfg0.slots t 16)) fullShare (iblk m c 16 t) :=
  (leaves_after (dats m 0 c) 16 t (.inl rfl) rfl).trans (by dsimp only [dats, afterV])
theorem left_17 (t : Fin cfg0.N) : (dats m 0 c).leaves 17 t = owns (c : Thread nD τ) (win0_17.stage (cfg0.slots t 17)) fullShare (iblk m c 17 t) :=
  (leaves_after (dats m 0 c) 17 t (.inl rfl) rfl).trans (by dsimp only [dats, afterV])
theorem left_18 (t : Fin cfg0.N) : (dats m 0 c).leaves 18 t = owns (c : Thread nD τ) (win0_18.stage (cfg0.slots t 18)) fullShare (iblk m c 18 t) :=
  (leaves_after (dats m 0 c) 18 t (.inl rfl) rfl).trans (by dsimp only [dats, afterV])

theorem flush_no (w : Fin cfg0.W) (hw : ∀ t : Fin cfg0.N, (cfg0.win w).flush t = true ↔ t.val % 33 = 32) (t : Fin cfg0.N)
    (h : t.val < 32) : (cfg0.win w).flush t = false := by
  rw [← Bool.not_eq_true, hw]; omega

theorem idle_yes (b : BitVec 1) (h : ¬ b = 1#1) : (!(b == 1#1)) = true := by simp [h]
theorem idle_no (b : BitVec 1) (h : b = 1#1) : (!(b == 1#1)) = false := by simp [h]

/-- What the body is called with at point `t`. -/
def bodyPre (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m
    0 c).before 0 t d)) ∗ (∃ d, owns (c : Thread nD τ) (win0_1.stage (cfg0.slots t 1)) fullShare ((dats m 0 c).before 1 t d)) ∗ (∃ d, owns (c : Thread nD
    τ) (win0_2.stage (cfg0.slots t 2)) fullShare ((dats m 0 c).before 2 t d)) ∗ (∃ d, owns (c : Thread nD τ) (win0_3.stage (cfg0.slots t 3)) fullShare
    ((dats m 0 c).before 3 t d)) ∗ (∃ d, owns (c : Thread nD τ) (win0_4.stage (cfg0.slots t 4)) fullShare ((dats m 0 c).before 4 t d)) ∗ (∃ d, owns (c :
    Thread nD τ) (win0_5.stage (cfg0.slots t 5)) fullShare ((dats m 0 c).before 5 t d)) ∗ (∃ d, owns (c : Thread nD τ) (win0_6.stage (cfg0.slots t 6))
    fullShare ((dats m 0 c).before 6 t d)) ∗ (∃ d, owns (c : Thread nD τ) (win0_7.stage (cfg0.slots t 7)) fullShare ((dats m 0 c).before 7 t d)) ∗ (∃ d,
    owns (c : Thread nD τ) (win0_8.stage (cfg0.slots t 8)) fullShare ((dats m 0 c).before 8 t d)) ∗ (∃ d, owns (c : Thread nD τ) (win0_9.stage (cfg0.slots
    t 9)) fullShare ((dats m 0 c).before 9 t d)) ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)) ∗ (∃ d, owns (c : Thread nD τ) (win0_12.stage
    (cfg0.slots t 12)) fullShare ((dats m 0 c).before 12 t d)) ∗ (∃ d, owns (c : Thread nD τ) (win0_13.stage (cfg0.slots t 13)) fullShare ((dats m 0
    c).before 13 t d)) ∗ (∃ d, owns (c : Thread nD τ) (win0_14.stage (cfg0.slots t 14)) fullShare ((dats m 0 c).before 14 t d)) ∗ (∃ d, owns (c : Thread
    nD τ) (win0_15.stage (cfg0.slots t 15)) fullShare ((dats m 0 c).before 15 t d)) ∗ (∃ d, owns (c : Thread nD τ) (win0_16.stage (cfg0.slots t 16))
    fullShare ((dats m 0 c).before 16 t d)) ∗ (∃ d, owns (c : Thread nD τ) (win0_17.stage (cfg0.slots t 17)) fullShare ((dats m 0 c).before 17 t d)) ∗ (∃
    d, owns (c : Thread nD τ) (win0_18.stage (cfg0.slots t 18)) fullShare ((dats m 0 c).before 18 t d)) ∗ (∃ d, owns (c : Thread nD τ) (win0_19.stage
    (cfg0.slots t 19)) fullShare ((dats m 0 c).before 19 t d)) ∗ (∃ d, owns (c : Thread nD τ) (win0_20.stage (cfg0.slots t 20)) fullShare ((dats m 0
    c).before 20 t d)) ∗ (∃ d, owns (c : Thread nD τ) (win0_21.stage (cfg0.slots t 21)) fullShare ((dats m 0 c).before 21 t d)) ∗ (∃ d, owns (c : Thread
    nD τ) (win0_22.stage (cfg0.slots t 22)) fullShare ((dats m 0 c).before 22 t d)) ∗ (∃ d, owns (c : Thread nD τ) (win0_23.stage (cfg0.slots t 23))
    fullShare ((dats m 0 c).before 23 t d)))

/-- What the body returns at point `t`. -/
def bodyPost (t : Fin cfg0.N) : sProp 𝕄 :=
  iprop((dats m 0 c).Φ t.succ ∗ (dats m 0 c).owesAt () t.succ ∗ (dats m 0 c).leaves 0 t ∗ (dats m 0 c).leaves 1 t ∗ (dats m 0 c).leaves 2 t ∗ (dats m 0
    c).leaves 3 t ∗ (dats m 0 c).leaves 4 t ∗ (dats m 0 c).leaves 5 t ∗ (dats m 0 c).leaves 6 t ∗ (dats m 0 c).leaves 7 t ∗ (dats m 0 c).leaves 8 t ∗
    (dats m 0 c).leaves 9 t ∗ (dats m 0 c).leaves 10 t ∗ (dats m 0 c).leaves 11 t ∗ (dats m 0 c).leaves 12 t ∗ (dats m 0 c).leaves 13 t ∗ (dats m 0
    c).leaves 14 t ∗ (dats m 0 c).leaves 15 t ∗ (dats m 0 c).leaves 16 t ∗ (dats m 0 c).leaves 17 t ∗ (dats m 0 c).leaves 18 t ∗ (dats m 0 c).leaves 19 t
    ∗ (dats m 0 c).leaves 20 t ∗ (dats m 0 c).leaves 21 t ∗ (dats m 0 c).leaves 22 t ∗ (dats m 0 c).leaves 23 t)

/-- The history's window is left at its block of the extended history, on the part that is written back. -/
theorem left_23 (t : Fin cfg0.N) : (dats m 0 c).leaves 23 t = iprop(∃ d, owns (c : Thread nD τ) (win0_23.stage (cfg0.slots t 23)) fullShare
    (win0_23.fill (grid0.coords t) d (win0_23.cut (grid0.coords t) (histV m c t)))) := by
  have hi : cfg0.idle 23 (cfg0.grid.coords t) = false := by
    show (!(k0_cond2 (grid0.coords t) == 1#1) && !(k0_cond4 (grid0.coords t) == 1#1)) = false
    by_cases h : t.val < 32
    · rw [idle_no _ ((cond2_iff t).mpr h), Bool.false_and]
    · rw [idle_no _ ((cond4_iff t).mpr (by have : t.val < 33 := t.isLt; omega)), Bool.and_false]
  exact (leaves_loose (dats m 0 c) 23 t hi rfl).trans (by dsimp only [dats, afterV])

set_option maxHeartbeats 2000000 in
/-- The first point. -/
theorem sound_first : bodyPre m c pt0 ⊢ wp frame (wpE (defs₀ (F := F)) Variants.none c none) Set.univ (bodyAt0 pt0) (fun _ => bodyPost m c pt0) := by
  unfold bodyPre bodyPost bodyAt0
  have h1 : k0_cond1 (grid0.coords pt0) = 1#1 := (cond1_iff pt0).mpr rfl
  have h2 : k0_cond2 (grid0.coords pt0) = 1#1 := (cond2_iff pt0).mpr (by decide)
  have h4 : ¬ k0_cond4 (grid0.coords pt0) = 1#1 := fun h => absurd ((cond4_iff pt0).mp h) (by decide)
  have hΦ0 : (dats m 0 c).Φ pt0.castSucc = Pipeline.ΦA (U := UR sig nD τ) spec0 c := by
    dsimp only [dats]; exact if_pos rfl
  have hΦ1 : (dats m 0 c).Φ pt0.succ = PhiS m c 1 := by dsimp only [dats]; rfl
  have L19 := Dat.leaves_idle (dats m 0 c) 19 pt0 (idle_yes _ h4) (flush_no 19 flush0_19 pt0 (by decide))
  have L20 : (dats m 0 c).leaves 20 pt0 = owns (c : Thread nD τ) (win0_20.stage (cfg0.slots pt0 20)) fullShare (topicV m c) :=
    (leaves_after (dats m 0 c) 20 pt0 (.inl (idle_no _ h1)) rfl).trans (by dsimp only [dats, afterV])
  have L21 : (dats m 0 c).leaves 21 pt0 = owns (c : Thread nD τ) (win0_21.stage (cfg0.slots pt0 21)) fullShare (wtV m c) :=
    (leaves_after (dats m 0 c) 21 pt0 (.inl (idle_no _ h1)) rfl).trans (by dsimp only [dats, afterV])
  have L22 : (dats m 0 c).leaves 22 pt0 = owns (c : Thread nD τ) (win0_22.stage (cfg0.slots pt0 22)) fullShare (hidV3 m c) :=
    (leaves_after (dats m 0 c) 22 pt0 (.inl (idle_no _ h1)) rfl).trans (by dsimp only [dats, afterV])
  rw [hΦ0, hΦ1, L19, L20, L21, L22]
  simp only [before_0, before_1, before_2, before_3, before_4, before_5, before_6, before_7, before_8, before_9, before_10, before_11, before_12,
    before_13, before_14, before_15, before_16, before_17, before_18, left_0, left_1, left_2, left_3, left_4, left_5, left_6, left_7, left_8, left_9,
    left_10, left_11, left_12, left_13, left_14, left_15, left_16, left_17, left_18, left_23]
  unfold Pipeline.ΦA
  rw [scopedRest0_eq]
  unfold PhiS
  rw [if_neg Nat.one_ne_zero]
  iintro ⟨⟨⟨⟨%g1, S1⟩, ⟨%g2, S2⟩, ⟨%g3, S3⟩, ⟨%g4, S4⟩, ⟨%g5, S5⟩, ⟨%g0, S0⟩⟩, HR⟩, HO, ⟨%d0, H0⟩, ⟨%d1, H1⟩, ⟨%d2, H2⟩, ⟨%d3, H3⟩, ⟨%d4, H4⟩, ⟨%d5,
    H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17,
    H17⟩, ⟨%d18, H18⟩, ⟨%d19, H19⟩, ⟨%d20, H20⟩, ⟨%d21, H21⟩, ⟨%d22, H22⟩, ⟨%d23, H23⟩⟩
  iapply (body_first c (grid0.coords pt0) _ _ _ _ _ _ _ _ _ _ _ _ _ _ _ _ _ _ _ _ _ _ _ _ _ _ _ _ _ _ _ _ _ _ _ _ _ _ _ _ _ _ _ _ _ _ _ _ _ _ _ _ _ _
    _ _ _ _ _ _  h1 h2 h4 _ _ _ _ _ _ _ _ _ _ _ _ _ _ _ _  _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H18]; · iexact H18
  isplitl [H20]; · iexists _; iexact H20
  isplitl [H21]; · iexists _; iexact H21
  isplitl [H22]; · iexists _; iexact H22
  isplitl [H23]; · iexists _; iexact H23
  isplitl [S0]; · iexists g0; rw [owns_whole]; iexact S0
  isplitl [S1]; · iexists g1; rw [owns_whole]; iexact S1
  isplitl [S2]; · iexists g2; rw [owns_whole]; iexact S2
  isplitl [S3]; · iexists g3; rw [owns_whole]; iexact S3
  isplitl [S4]; · iexists g4; rw [owns_whole]; iexact S4
  isplitl [S5]; · iexists g5; rw [owns_whole]; iexact S5
  iintro ⟨H0, H1, H2, H3, H4, H5, H6, H7, H8, H9, H10, H11, H12, H13, H14, H18, H20, H21, H22, H23, S0, S1, S2, S3, S4, S5⟩
  isplitl [HR S0 S1 S2 S3 S4 S5]
  · isplitl [S0]; · iexact S0
    isplitl [S1]; · iexact S1
    isplitl [S2]; · iexact S2
    isplitl [S3]; · iexact S3
    isplitl [S4]; · iexact S4
    isplitl [S5]
    · rw [show accAt m c 1 = _ from accAt_succ m c pt0 h2]; iexact S5
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexact H20
  isplitl [H21]; · iexact H21
  isplitl [H22]; · iexact H22
  iexists histV m c pt0
  rw [Pipeline.Window.fill_cut, show histV m c pt0 = hsBlk m c pt0 from if_pos (by decide)]
  iexact H23

set_option maxHeartbeats 2000000 in
/-- A point after the first and before the last. -/
theorem sound_mid (t : Fin cfg0.N) (ht0 : t.val ≠ 0) (ht : t.val < 32) :
    bodyPre m c t ⊢ wp frame (wpE (defs₀ (F := F)) Variants.none c none) Set.univ (bodyAt0 t) (fun _ => bodyPost m c t) := by
  unfold bodyPre bodyPost bodyAt0
  have h1 : ¬ k0_cond1 (grid0.coords t) = 1#1 := fun h => ht0 ((cond1_iff t).mp h)
  have h2 : k0_cond2 (grid0.coords t) = 1#1 := (cond2_iff t).mpr ht
  have h4 : ¬ k0_cond4 (grid0.coords t) = 1#1 := fun h => absurd ((cond4_iff t).mp h) (by omega)
  have hΦ0 : (dats m 0 c).Φ t.castSucc = PhiS m c t.val := by dsimp only [dats]; rfl
  have hΦ1 : (dats m 0 c).Φ t.succ = PhiS m c (t.val + 1) := by dsimp only [dats]; rfl
  have L19 := Dat.leaves_idle (dats m 0 c) 19 t (idle_yes _ h4) (flush_no 19 flush0_19 t ht)
  have L20 := Dat.leaves_idle (dats m 0 c) 20 t (idle_yes _ h1) (flush_no 20 flush0_20 t ht)
  have L21 := Dat.leaves_idle (dats m 0 c) 21 t (idle_yes _ h1) (flush_no 21 flush0_21 t ht)
  have L22 := Dat.leaves_idle (dats m 0 c) 22 t (idle_yes _ h1) (flush_no 22 flush0_22 t ht)
  rw [hΦ0, hΦ1, L19, L20, L21, L22]
  simp only [before_0, before_1, before_2, before_3, before_4, before_5, before_6, before_7, before_8, before_9, before_10, before_11, before_12,
    before_13, before_14, before_15, before_16, before_17, before_18, left_0, left_1, left_2, left_3, left_4, left_5, left_6, left_7, left_8, left_9,
    left_10, left_11, left_12, left_13, left_14, left_15, left_16, left_17, left_18, left_23]
  unfold PhiS
  rw [if_neg ht0, if_neg (Nat.succ_ne_zero _)]
  iintro ⟨⟨S0, S1, S2, S3, S4, S5, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9,
    H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩,
    ⟨%d21, H21⟩, ⟨%d22, H22⟩, ⟨%d23, H23⟩⟩
  iapply (body_mid c (grid0.coords t) _ _ _ _ _ _ _ _ _ _ _ _ _ _ _ _ _ _ _ _ _ _ _ _ _ _ _ _ _ _ _ _ _ _ _ _ _ _ _ _ _ _ _ _ _ _ _ _ _ _ _ _ _ _ _ _
    _ _ _ _  h1 h2 h4 _ _ _ _ _  _)
  isplitl [H18]; · iexact H18
  isplitl [S0]; · iexact S0
  isplitl [S2]; · iexact S2
  isplitl [H23]; · iexact H23
  isplitl [S5]; · iexact S5
  iintro ⟨H18, S0, S2, H23, S5⟩
  isplitl [HR S0 S1 S2 S3 S4 S5]
  · isplitl [S0]; · iexact S0
    isplitl [S1]; · iexact S1
    isplitl [S2]; · iexact S2
    isplitl [S3]; · iexact S3
    isplitl [S4]; · iexact S4
    isplitl [S5]
    · rw [accAt_succ m c t h2]; iexact S5
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  iexists histV m c t
  rw [Pipeline.Window.fill_cut, show histV m c t = hsBlk m c t from if_pos ht]
  iexact H23

/-- At the last point only the block's first row is written back, so the rest of the block does not matter. -/
theorem hist_last (y : FVec F S64x128x256 .f32) :
    VecWindow.put y ![0, 0, 0] S1x128x256.size (k0_pay3 (hidV m c))
      = win0_23.fill (grid0.coords pt32) y (win0_23.cut (grid0.coords pt32) (histV m c pt32)) := by
  have hx : ∀ a, win0_23.xsize (grid0.coords pt32) a = (![1, 128, 256] : Fin 3 → ℕ) a := by decide
  rw [show histV m c pt32 = _ from if_neg (by decide)]
  funext j
  unfold Pipeline.Window.fill
  by_cases h : (j 0).val < 1
  · have hm : win0_23.moved (grid0.coords pt32) j = true := (win0_23.moved_iff _ j).mpr fun a => by
      rw [hx]
      match a with
      | 0 => exact h
      | 1 => exact (j 1).isLt
      | 2 => exact (j 2).isLt
    rw [dif_pos hm]
    have hw : ∀ a, (![0, 0, 0] : Fin 3 → ℕ) a ≤ (j a).val ∧ (j a).val < (![0, 0, 0] : Fin 3 → ℕ) a + S1x128x256.size a := fun a => by
      match a with
      | 0 => exact ⟨Nat.zero_le _, by show (j 0).val < 0 + 1; omega⟩
      | 1 => exact ⟨Nat.zero_le _, by show (j 1).val < 0 + 128; have : (j 1).val < 128 := (j 1).isLt; omega⟩
      | 2 => exact ⟨Nat.zero_le _, by show (j 2).val < 0 + 256; have : (j 2).val < 256 := (j 2).isLt; omega⟩
    show VecWindow.put y _ _ _ j = VecWindow.put (hsBlk m c pt32) _ _ _ j
    unfold VecWindow.put
    rw [dif_pos hw, dif_pos hw]
  · have hm : ¬ win0_23.moved (grid0.coords pt32) j = true := fun hm => h (by
      have := (win0_23.moved_iff _ j).mp hm 0
      rw [hx] at this; exact this)
    rw [dif_neg hm]
    unfold VecWindow.put
    rw [dif_neg fun hw => h (by have := (hw 0).2; exact this)]

set_option maxHeartbeats 2000000 in
/-- The last point. -/
theorem sound_last :
    bodyPre m c pt32 ⊢ wp frame (wpE (defs₀ (F := F)) Variants.none c none) Set.univ (bodyAt0 pt32) (fun _ => bodyPost m c pt32) := by
  unfold bodyPre bodyPost bodyAt0
  have h1 : ¬ k0_cond1 (grid0.coords pt32) = 1#1 := fun h => absurd ((cond1_iff pt32).mp h) (by decide)
  have h2 : ¬ k0_cond2 (grid0.coords pt32) = 1#1 := fun h => absurd ((cond2_iff pt32).mp h) (by decide)
  have h4 : k0_cond4 (grid0.coords pt32) = 1#1 := (cond4_iff pt32).mpr rfl
  have hΦ0 : (dats m 0 c).Φ pt32.castSucc = PhiS m c 32 := by dsimp only [dats]; rfl
  have hΦ1 : (dats m 0 c).Φ pt32.succ = PhiS m c 33 := by dsimp only [dats]; rfl
  have hlate : ∀ t : Fin cfg0.N, t.val ≠ 0 → ¬ k0_cond1 (grid0.coords t) = 1#1 := fun t h h' => h ((cond1_iff t).mp h')
  have L19 : (dats m 0 c).leaves 19 pt32 = owns (c : Thread nD τ) (win0_19.stage (cfg0.slots pt32 19)) fullShare (predV m c) :=
    (leaves_after (dats m 0 c) 19 pt32 (.inl (idle_no _ h4)) rfl).trans (by dsimp only [dats, afterV])
  have L20 : (dats m 0 c).leaves 20 pt32 = owns (c : Thread nD τ) (win0_20.stage (cfg0.slots pt32 20)) fullShare (topicV m c) :=
    (leaves_after (dats m 0 c) 20 pt32 (.inr ((flush0_20 pt32).mpr rfl)) rfl).trans (by dsimp only [dats, afterV])
  have B20 : ∀ d, (dats m 0 c).before 20 pt32 d = topicV m c :=
    before_stays (dats m 0 c) 20 rfl 32 (fun t h => idle_no _ ((cond1_iff t).mpr h)) (fun t h => idle_yes _ (hlate t h))
      (flush_no 20 flush0_20) (fun _ _ => rfl) _ (fun _ => by dsimp only [dats, afterV]) 32 pt32 rfl (by decide) le_rfl
  have L21 : (dats m 0 c).leaves 21 pt32 = owns (c : Thread nD τ) (win0_21.stage (cfg0.slots pt32 21)) fullShare (wtV m c) :=
    (leaves_after (dats m 0 c) 21 pt32 (.inr ((flush0_21 pt32).mpr rfl)) rfl).trans (by dsimp only [dats, afterV])
  have B21 : ∀ d, (dats m 0 c).before 21 pt32 d = wtV m c :=
    before_stays (dats m 0 c) 21 rfl 32 (fun t h => idle_no _ ((cond1_iff t).mpr h)) (fun t h => idle_yes _ (hlate t h))
      (flush_no 21 flush0_21) (fun _ _ => rfl) _ (fun _ => by dsimp only [dats, afterV]) 32 pt32 rfl (by decide) le_rfl
  have L22 : (dats m 0 c).leaves 22 pt32 = owns (c : Thread nD τ) (win0_22.stage (cfg0.slots pt32 22)) fullShare (hidV3 m c) :=
    (leaves_after (dats m 0 c) 22 pt32 (.inr ((flush0_22 pt32).mpr rfl)) rfl).trans (by dsimp only [dats, afterV])
  have B22 : ∀ d, (dats m 0 c).before 22 pt32 d = hidV3 m c :=
    before_stays (dats m 0 c) 22 rfl 32 (fun t h => idle_no _ ((cond1_iff t).mpr h)) (fun t h => idle_yes _ (hlate t h))
      (flush_no 22 flush0_22) (fun _ _ => rfl) _ (fun _ => by dsimp only [dats, afterV]) 32 pt32 rfl (by decide) le_rfl
  rw [hΦ0, hΦ1, L19, L20, L21, L22]
  simp only [B20, B21, B22]
  simp only [before_0, before_1, before_2, before_3, before_4, before_5, before_6, before_7, before_8, before_9, before_10, before_11, before_12,
    before_13, before_14, before_15, before_16, before_17, before_18, left_0, left_1, left_2, left_3, left_4, left_5, left_6, left_7, left_8, left_9,
    left_10, left_11, left_12, left_13, left_14, left_15, left_16, left_17, left_18, left_23]
  unfold PhiS
  rw [if_neg (by decide : ¬ 32 = 0), if_neg (by decide : ¬ 33 = 0)]
  iintro ⟨⟨S0, S1, S2, S3, S4, S5, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9,
    H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩,
    ⟨%d21, H21⟩, ⟨%d22, H22⟩, ⟨%d23, H23⟩⟩
  iapply (body_last c (grid0.coords pt32) _ _ _ _ _ _ _ _ _ _ _ _ _ _ _ _ _ _ _ _ _ _ _ _ _ _ _ _ _ _ _ _ _ _ _ _ _ _ _ _ _ _ _ _ _ _ _ _ _ _ _ _ _ _
    _ _ _ _ _ _  h1 h2 h4 _ _ _ _ _ _ _ _ _  _)
  isplitl [H15]; · iexact H15
  isplitl [H16]; · iexact H16
  isplitl [H17]; · iexact H17
  isplitl [S1]; · iexact S1
  isplitl [S3]; · iexact S3
  isplitl [S4]; · iexact S4
  isplitl [S5]; · iexact S5
  isplitl [H19]; · iexact H19
  isplitl [H23]; · iexact H23
  iintro ⟨H15, H16, H17, S1, S3, S4, S5, H19, H23⟩
  isplitl [HR S0 S1 S2 S3 S4 S5]
  · isplitl [S0]; · iexact S0
    isplitl [S1]; · iexact S1
    isplitl [S2]; · iexact S2
    isplitl [S3]; · iexact S3
    isplitl [S4]; · iexact S4
    isplitl [S5]
    · rw [show accAt m c 33 = accAt m c 32 from accAt_last m c pt32 h2]; iexact S5
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexists _
  rw [← hist_last]
  iexact H23

/-- The body's triple at every point. -/
theorem sound_body (t : Fin cfg0.N) :
    bodyPre m c t ⊢ wp frame (wpE (defs₀ (F := F)) Variants.none c none) Set.univ (bodyAt0 t) (fun _ => bodyPost m c t) := by
  by_cases h0 : t.val = 0
  · rw [show t = pt0 from Fin.ext h0]; exact sound_first m c
  by_cases h32 : t.val < 32
  · exact sound_mid m c t h0 h32
  · have hN : t.val < 33 := t.isLt
    rw [show t = pt32 from Fin.ext (show t.val = 32 by omega)]; exact sound_last m c

theorem defs₀_row (t : Fin cfg0.N) : defs₀ (F := F) .tc cfg0.body (cfg0.bodyArgs t (cfg0.slots t)) = bodyAt0 t := by
  unfold defs₀; rw [Defs.onTc_tc]

/-- The pipeline's body obligation. -/
theorem body_obligation : BodyObligationLoose (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.Body.Launch.lean ====
/-
  The kernel's run from any memory: what every array holds at the end, with every semaphore counter back at zero, and
  hence that the arguments end unchanged.
-/
module

public import proofs.«01_k».proof.Proof.Body.Obligation
public import Idealize.ShloMosaic.Lib.Pipeline.FrameSuffix
public import Idealize.ShloMosaic.Lib.Pipeline.Quiescent

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The scratch's contents are forgotten when the launch ends. -/
theorem invariant_out (c : Dev nD) : (dats (F := F) m 0 c).Φ (Fin.last cfg0.N) ⊢ Pipeline.ΦA (U := UR sig nD τ) spec0 c := by
  rw [show (dats (F := F) m 0 c).Φ (Fin.last cfg0.N) = PhiS m c 33 from by dsimp only [dats]; rfl]
  unfold PhiS Pipeline.ΦA
  rw [if_neg (by decide : ¬ 33 = 0), scopedRest0_eq]
  simp only [owns_whole]
  iintro ⟨S0, S1, S2, S3, S4, S5, HR⟩
  isplitr [HR]
  · isplitl [S1]; · iexists _; iexact S1
    isplitl [S2]; · iexists _; iexact S2
    isplitl [S3]; · iexists _; iexact S3
    isplitl [S4]; · iexists _; iexact S4
    isplitl [S5]; · iexists _; iexact S5
    iexists _; iexact S0
  iexact HR

set_option backward.isDefEq.respectTransparency.types false in
/-- The run: every window's array holds what the points' blocks left, everything else what the lines around the
    launch left, and every counter is zero. -/
theorem run_arrays : θ_run defs (onTc (τ := τ) (main (F := F))) (s₀ m ρ) fun r =>
    Pipeline.FramePost cfgs (dats (F := F) m) 0 (Pipeline.afterTail₀ cfgs (dats m) 0 (V0 m) [hostOps1]) r ∧ r.2.sem = fun _ => 0 :=
  Pipeline.θ_run_frame_around_track cfgs (dats (F := F) m) 0 launch0 defs₀ Variants.none m ρ main (body_obligation m)
    (fun c => (dats m 0 c).share_full fun _ => rfl) (fun _ _ => rfl) (V0 m) [hostOps1] sfx_sub sfx_fresh sfx_keeps (hmain m Variants.none)
    (A_eq m) (fun c => by
      rw [show (dats (F := F) m 0 c).Φ 0 = PhiS m c 0 from by dsimp only [dats]; rfl]
      exact Entails.refl _) (invariant_out m) _ fun _ h => h

/-- The arguments hold what they held at the start. -/
def ArgsKept (r : PUnit × MemSt nD τ sig (Elt F)) : Prop := ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)

/-- The arguments end unchanged and every counter is zero. -/
theorem run_frame : θ_run defs (onTc (τ := τ) (main (F := F))) ⟨m, fun _ => 0, ρ⟩ fun r => ArgsKept m r ∧ r.2.sem = fun _ => 0 :=
  Idealize.ShloMosaic.θ_run_with_sems (frame_of (F := F) m ρ (dats m) (A_eq m)) (run_arrays m ρ)

end Cert.KernelIdeal.Hand

end
-- ==== Proof.Claims.Same.lean ====
/-
  The frame of the kernel as printed, over machine floats.  Idealizing with no rewrites changes nothing of the program,
  so the run proved for any float values is also the printed kernel's.
-/
module

public import proofs.«01_k».proof.Defs
public import proofs.«01_k».proof.Proof.Gen.Kernel
public import proofs.«01_k».proof.Proof.Gen.KernelIdeal
public import proofs.«01_k».proof.Proof.Body.Launch
public import Idealize.ShloMosaic.Lib.Tactic

@[expose] public section

noncomputable section

namespace Cert.Proof

open Idealize.ShloMosaic Idealize.SL.Sem

theorem sig_same : Cert.Kernel.sig = Cert.KernelIdeal.sig := rfl

set_option maxRecDepth 100000 in
set_option maxHeartbeats 4000000 in
theorem defs_same {F : FTy → Type} [FloatOps F] [Cert.Kernel.Facts] [Cert.KernelIdeal.Facts] :
    Cert.Kernel.defs (F := F) = Cert.KernelIdeal.defs (F := F) := by sl_kernel_rfl

set_option maxRecDepth 100000 in
set_option maxHeartbeats 4000000 in
theorem main_same {F : FTy → Type} [FloatOps F] [Cert.Kernel.Facts] [Cert.KernelIdeal.Facts] :
    Cert.Kernel.main (F := F) = Cert.KernelIdeal.main (F := F) := by sl_kernel_rfl

set_option maxRecDepth 100000 in
set_option maxHeartbeats 4000000 in
/-- The printed kernel's frame. -/
theorem kernel_frame : Cert.quiescent_Kernel := fun m g _ => by
  rw [defs_same, main_same]
  exact Cert.KernelIdeal.Hand.run_frame (F := Bits) m g

/-- The idealized kernel's frame. -/
theorem kernel_ideal_frame : Cert.quiescent_KernelIdeal := fun m g _ => Cert.KernelIdeal.Hand.run_frame (F := Ideal) m g

end Cert.Proof

end
-- ==== Proof.Claims.Reference.lean ====
/-
  The reference's frame: a straight line of host operations, none of which writes an argument, and no semaphore.
-/
module

public import proofs.«01_k».proof.Defs
public import proofs.«01_k».proof.Proof.Gen.ReferenceIdeal.Run
public import Idealize.ShloMosaic.Lib.Pipeline.Quiescent

@[expose] public section

noncomputable section

namespace Cert.Proof

open Idealize.ShloMosaic Idealize.SL.Sem

/-- The idealized reference's frame. -/
theorem reference_frame : Cert.quiescent_ReferenceIdeal := fun m g _ =>
  (θ_run _ _ _).mono (fun r h => ⟨fun c => (h c).2.2.2.2.2, sem_eq_zero_of_no_sems (by decide) r.2⟩)
    (Cert.ReferenceIdeal.Value.run (F := Ideal) m g)

end Cert.Proof

end
-- ==== Proof.Value.Pick.lean ====
/-
  The order in which both programs take the scores: greatest first, equal ones by position.
-/
module

public import Idealize.ShloMosaic.Lib.SortPrefix
public import Idealize.ShloMosaic.Lib.Pointwise

@[expose] public section

set_option maxRecDepth 16384

noncomputable section

namespace Cert.Value

open Idealize.ShloMosaic

/-! ## A stable sort needs its comparator only on positions in order -/

/-- A stable sort of a list in order is the same under two relations that agree on pairs of which the second comes first
    in the list: those are the only pairs it compares. -/
theorem stableSort_congr_later {ι : Type} [Preorder ι] (R R' : ι → ι → Bool) (l : List ι) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The same of the positions a stable sort puts in order. -/
theorem sortedFrom_congr_later {n : ℕ} (R R' : Fin n → Fin n → Bool) (h : ∀ a b, a < b → R b a = R' b a) :
    sortedFrom R = sortedFrom R' := by
  funext k
  have e : sortPositions n R = sortPositions n R' :=
    stableSort_congr_later R R' _ (List.pairwise_lt_finRange n) h
  unfold sortedFrom
  rw [List.get_of_eq e]
  rfl

/-! ## Greatest score first, equal scores by position -/

variable {n : ℕ} (β : Fin n → EReal)

/-- Position `a` comes before position `b`: its score is greater, or the same and `a < b`. -/
def ahead (a b : Fin n) : Bool := decide (β b < β a) || (decide (β a = β b) && decide (a < b))

theorem ahead_strict : StrictTotalBefore (ahead β) :=
  StrictTotalBefore.of_key_then_position (fun x y : EReal => decide (y < x)) β (fun a => by simp)
    (fun a b c hab hbc => by
      simp only [decide_eq_true_eq] at *
      exact lt_trans hbc hab)
    (fun a b => by
      simp only [decide_eq_true_eq]
      rcases lt_trichotomy b a with h | h | h
      · exact Or.inl h
      · exact Or.inr (Or.inl h.symm)
      · exact Or.inr (Or.inr h))

theorem ahead_iff (a b : Fin n) : ahead β a b = true ↔ β b < β a ∨ β a = β b ∧ a < b := by
  simp [ahead]

/-- The position taken `k`-th. -/
def pick (k : Fin n) : Fin n := sortedFrom (ahead β) k

theorem pick_injective : Function.Injective (pick β) := sortedFrom_injective _
theorem pick_surjective : Function.Surjective (pick β) := sortedFrom_surjective _

/-- What is taken earlier comes before what is taken later. -/
theorem pick_ahead {i j : Fin n} (h : i < j) : ahead β (pick β i) (pick β j) = true := by
  have hn := sortedFrom_noInversion (ahead β) (ahead β) (fun a b => (ahead_strict β).asymm a b) (fun _ _ h => h)
    (ahead_strict β).negTrans i j h
  rcases (ahead_strict β).total (pick β i) (pick β j) (fun e => absurd (pick_injective β e) h.ne) with h1 | h1
  · exact h1
  · exact absurd (h1.symm.trans hn) (by decide)

theorem pick_le {i j : Fin n} (h : i ≤ j) : β (pick β j) ≤ β (pick β i) := by
  rcases h.lt_or_eq with h | rfl
  · rcases (ahead_iff β _ _).mp (pick_ahead β h) with h | h
    · exact h.le
    · exact h.1.ge
  · exact le_rfl

/-! ## The scores with the first `k` taken out -/

/-- The scores left when `k` of them have been taken: a taken one is `-∞`. -/
def left (k : ℕ) (r : Fin n) : EReal := if ∃ i : Fin n, i.val < k ∧ pick β i = r then ⊥ else β r

theorem left_zero : left β 0 = β := by
  funext r
  simp [left]

theorem left_pick_of_lt {k : ℕ} {i : Fin n} (h : i.val < k) : left β k (pick β i) = ⊥ := if_pos ⟨i, h, rfl⟩

theorem left_pick_of_le {k : ℕ} {i : Fin n} (h : k ≤ i.val) : left β k (pick β i) = β (pick β i) :=
  if_neg fun ⟨j, hj, e⟩ => by
    rw [pick_injective β e] at hj
    omega

theorem left_succ (k : Fin n) (r : Fin n) : left β (k.val + 1) r = if r = pick β k then ⊥ else left β k.val r := by
  obtain ⟨i, rfl⟩ := pick_surjective β r
  by_cases h : i = k
  · subst h
    rw [if_pos rfl, left_pick_of_lt β (by omega)]
  · rw [if_neg fun e => h (pick_injective β e)]
    have h' : i.val ≠ k.val := fun e => h (Fin.ext e)
    rcases Nat.lt_or_ge i.val k.val with hl | hl
    · rw [left_pick_of_lt β hl, left_pick_of_lt β (by omega)]
    · rw [left_pick_of_le β hl, left_pick_of_le β (by omega)]

/-- The greatest score left is the one taken next. -/
theorem left_le (k r : Fin n) : left β k.val r ≤ β (pick β k) := by
  obtain ⟨i, rfl⟩ := pick_surjective β r
  rcases Nat.lt_or_ge i.val k.val with hl | hl
  · rw [left_pick_of_lt β hl]; exact bot_le
  · rw [left_pick_of_le β hl]; exact pick_le β hl

theorem fold_left (k : Fin n) : Finset.univ.fold max ⊥ (left β k.val) = β (pick β k) := by
  refine le_antisymm ?_ ?_
  · rw [Finset.fold_max_le]
    exact ⟨bot_le, fun r _ => left_le β k r⟩
  · rw [Finset.le_fold_max]
    exact Or.inr ⟨pick β k, Finset.mem_univ _, (left_pick_of_le β le_rfl).ge⟩

/-- The first position of the greatest score left is the one taken next, no score being `-∞`. -/
theorem pick_le_of_left_eq (hβ : ∀ r, β r ≠ ⊥) (k r : Fin n) (h : left β k.val r = β (pick β k)) : pick β k ≤ r := by
  obtain ⟨i, rfl⟩ := pick_surjective β r
  rcases Nat.lt_trichotomy i.val k.val with hl | hl | hl
  · rw [left_pick_of_lt β hl] at h
    exact absurd h.symm (hβ _)
  · rw [Fin.ext hl]
  · rw [left_pick_of_le β hl.le] at h
    rcases (ahead_iff β _ _).mp (pick_ahead β (i := k) (j := i) hl) with h1 | h1
    · rw [h] at h1; exact absurd h1 (lt_irrefl _)
    · exact h1.2.le

end Cert.Value
-- ==== Proof.Value.Spec.lean ====
/-
  What both programs compute, in plain sums over extended reals: one step of a student model with attention over its
  history, the argument arrays read as functions of their coordinates.
-/
module

public import proofs.«01_k».proof.Proof.Value.Pick

@[expose] public section

set_option maxRecDepth 16384

noncomputable section

namespace Cert.Value

open Idealize.ShloMosaic

/-! ## Softmax -/

/-- The greatest entry (`-∞` of none). -/
def peak {n : ℕ} (f : Fin n → EReal) : EReal := Finset.univ.fold max ⊥ f

/-- The softmax of `f`: the exponentials of the distances to the greatest entry, over their sum. -/
def soft {n : ℕ} (f : Fin n → EReal) (i : Fin n) : EReal :=
  Ideal.div (Ideal.exp (f i - peak f)) (∑ j, Ideal.exp (f j - peak f))

/-- A number that is neither infinity. -/
def IsReal (x : EReal) : Prop := ∃ r : ℝ, x = (r : EReal)

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem IsReal.of_ne {x : EReal} (h1 : x ≠ ⊥) (h2 : x ≠ ⊤) : IsReal x := ⟨x.toReal, (EReal.coe_toReal h2 h1).symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.sum {n : ℕ} {f : Fin n → EReal} (h : ∀ i, IsReal (f i)) : IsReal (∑ i, f i) := by
  classical
  refine Finset.sum_induction f IsReal (fun _ _ => IsReal.add) ⟨0, rfl⟩ fun i _ => h i

theorem peak_real {n : ℕ} {f : Fin n → EReal} (h : ∀ i, IsReal (f i)) (i₀ : Fin n) : IsReal (peak f) := by
  refine IsReal.of_ne (fun e => ?_) (fun e => ?_)
  · have : f i₀ ≤ peak f := (Finset.le_fold_max _).mpr (Or.inr ⟨i₀, Finset.mem_univ _, le_rfl⟩)
    rw [e, le_bot_iff] at this
    exact (h i₀).ne_bot this
  · have : peak f < ⊤ := (Finset.fold_max_lt _).mpr ⟨bot_lt_top, fun i _ => lt_top_iff_ne_top.mpr (h i).ne_top⟩
    exact this.ne e

/-- A softmax of real scores is made of real numbers, none below zero. -/
theorem soft_real {n : ℕ} {f : Fin n → EReal} (h : ∀ i, IsReal (f i)) (i : Fin n) : ∃ r : ℝ, 0 ≤ r ∧ soft f i = (r : EReal) := by
  have he : ∀ j, ∃ r : ℝ, 0 < r ∧ Ideal.exp (f j - peak f) = (r : EReal) := fun j => by
    obtain ⟨r, hr⟩ := (h j).sub (peak_real h i)
    exact ⟨Real.exp r, Real.exp_pos r, by rw [hr, Ideal.exp_coe]⟩
  choose e hpos hexp using he
  have hs : (∑ j, Ideal.exp (f j - peak f)) = ((∑ j, e j : ℝ) : EReal) := by
    rw [Finset.sum_congr rfl fun j _ => hexp j]
    exact (map_sum (⟨⟨((↑) : ℝ → EReal), EReal.coe_zero⟩, EReal.coe_add⟩ : ℝ →+ EReal) e Finset.univ).symm
  have hp : 0 < ∑ j, e j := Finset.sum_pos (fun j _ => hpos j) ⟨i, Finset.mem_univ _⟩
  refine ⟨e i * (1 / ∑ j, e j), by have := hpos i; positivity, ?_⟩
  unfold soft
  rw [hs, hexp, Ideal.div_coe hp.ne', EReal.coe_mul]

/-! ## The step -/

/-- The argument arrays by coordinates (the one the mathematics never reads left out). -/
structure Args where
  co : Fin 128 → EReal
  ex : Fin 768 → EReal
  sc : EReal
  h0 : Fin 128 → Fin 256 → EReal
  vs : Fin 2048 → Fin 100 → EReal
  hs : Fin 2048 → Fin 128 → Fin 256 → EReal
  Wr : Fin 100 → Fin 768 → EReal
  br : Fin 100 → EReal
  Wk : Fin 64 → Fin 128 → EReal
  bk : Fin 64 → EReal
  km : Fin 128 → Fin 64 → EReal
  Ws : Fin 356 → EReal
  bs : EReal
  Wih : Fin 768 → Fin 101 → EReal
  Whh : Fin 768 → Fin 256 → EReal
  bih : Fin 768 → EReal
  bhh : Fin 768 → EReal

namespace Args

variable (A : Args)

/-- The exercise's vector. -/
def topic (j : Fin 100) : EReal := (∑ k, A.ex k * A.Wr j k) + A.br j
/-- Its likeness to the exercise of step `r` of the history. -/
def beta (r : Fin 2048) : EReal := ∑ j, A.topic j * A.vs r j
/-- The `k`-th most alike step of the history. -/
def top (k : Fin 64) : Fin 2048 := pick A.beta (k.castLE (by decide))
/-- The weights of the 64 most alike. -/
def wt (k : Fin 64) : EReal := soft (fun i : Fin 64 => A.beta (A.top i)) k
/-- The history's hidden state, weighted. -/
def attn (s : Fin 128) (d : Fin 256) : EReal := ∑ k, A.wt k * A.hs (A.top k) s d
/-- The concepts' vector. -/
def key (k : Fin 64) : EReal := (∑ d, A.co d * A.Wk k d) + A.bk k
/-- The scores of the knowledge slots. -/
def slot (s : Fin 128) : EReal := ∑ k, A.key k * A.km s k
/-- The weights of the knowledge slots. -/
def alpha (s : Fin 128) : EReal := soft A.slot s
/-- The predicted score. -/
def pred : EReal :=
  (∑ j : Fin 100, A.topic j * A.Ws ⟨j.val, by omega⟩)
    + (∑ d : Fin 256, (∑ s, A.alpha s * A.attn s d) * A.Ws ⟨100 + d.val, by omega⟩) + A.bs
/-- The input's share of gate row `q`. -/
def gi (s : Fin 128) (q : Fin 768) : EReal :=
  A.alpha s * ((∑ j : Fin 100, A.topic j * A.Wih q ⟨j.val, by omega⟩) + A.sc * A.Wih q 100) + A.bih q
/-- The state's share of gate row `q`. -/
def gh (s : Fin 128) (q : Fin 768) : EReal := (∑ k, A.h0 s k * A.Whh q k) + A.bhh q
/-- The reset gate. -/
def rg (s : Fin 128) (d : Fin 256) : EReal :=
  Ideal.logistic (A.gi s ⟨d.val, by omega⟩ + A.gh s ⟨d.val, by omega⟩)
/-- The update gate. -/
def zg (s : Fin 128) (d : Fin 256) : EReal :=
  Ideal.logistic (A.gi s ⟨256 + d.val, by omega⟩ + A.gh s ⟨256 + d.val, by omega⟩)
/-- The candidate state. -/
def ng (s : Fin 128) (d : Fin 256) : EReal :=
  Ideal.tanh (A.gi s ⟨512 + d.val, by omega⟩ + A.rg s d * A.gh s ⟨512 + d.val, by omega⟩)
/-- The new hidden state. -/
def hid (s : Fin 128) (d : Fin 256) : EReal := (1 - A.zg s d) * A.ng s d + A.zg s d * A.h0 s d

/-- The arrays the two softmaxes' scores are computed from hold real numbers. -/
structure Real : Prop where
  co : ∀ i, IsReal (A.co i)
  ex : ∀ i, IsReal (A.ex i)
  vs : ∀ i j, IsReal (A.vs i j)
  Wr : ∀ i j, IsReal (A.Wr i j)
  br : ∀ i, IsReal (A.br i)
  Wk : ∀ i j, IsReal (A.Wk i j)
  bk : ∀ i, IsReal (A.bk i)
  km : ∀ i j, IsReal (A.km i j)

variable {A}

theorem Real.topic (h : A.Real) (j : Fin 100) : IsReal (A.topic j) :=
  (IsReal.sum fun k => (h.ex k).mul (h.Wr j k)).add (h.br j)
theorem Real.beta (h : A.Real) (r : Fin 2048) : IsReal (A.beta r) := IsReal.sum fun j => (h.topic j).mul (h.vs r j)
theorem Real.key (h : A.Real) (k : Fin 64) : IsReal (A.key k) :=
  (IsReal.sum fun d => (h.co d).mul (h.Wk k d)).add (h.bk k)
theorem Real.slot (h : A.Real) (s : Fin 128) : IsReal (A.slot s) := IsReal.sum fun k => (h.key k).mul (h.km s k)
theorem Real.alpha (h : A.Real) (s : Fin 128) : ∃ r : ℝ, 0 ≤ r ∧ A.alpha s = (r : EReal) := soft_real h.slot s

/-- A knowledge slot's weight multiplies through a sum. -/
theorem Real.alpha_mul_sum (h : A.Real) (s : Fin 128) {n : ℕ} (f : Fin n → EReal) :
    A.alpha s * ∑ j, f j = ∑ j, A.alpha s * f j := by
  classical
  obtain ⟨r, hr, e⟩ := h.alpha s
  rw [e]
  induction (Finset.univ : Finset (Fin n)) using Finset.induction_on with
  | empty => simp
  | insert a t ha ih =>
    rw [Finset.sum_insert ha, Finset.sum_insert ha,
      EReal.left_distrib_of_nonneg_of_ne_top (EReal.coe_nonneg.mpr hr) (EReal.coe_ne_top r), ih]

theorem Real.alpha_mul_add (h : A.Real) (s : Fin 128) (x y : EReal) :
    A.alpha s * (x + y) = A.alpha s * x + A.alpha s * y := by
  obtain ⟨r, hr, e⟩ := h.alpha s
  rw [e, EReal.left_distrib_of_nonneg_of_ne_top (EReal.coe_nonneg.mpr hr) (EReal.coe_ne_top r)]

end Args

/-! ## A fold over a pair of which one part has a single value -/

theorem fold_one_prod {α : Type} {n : ℕ} (op : α → α → α) [Std.Commutative op] [Std.Associative op] (b : α)
    (f : Fin n → α) : Finset.fold op b (fun x : Fin 1 × Fin n => f x.2) Finset.univ = Finset.univ.fold op b f := by
  have e : (Finset.univ : Finset (Fin 1 × Fin n)) = Finset.univ.map ⟨fun i : Fin n => ((0 : Fin 1), i), fun _ _ h => by simpa using h⟩ := by
    ext ⟨a, i⟩
    simp [Subsingleton.elim (0 : Fin 1) a]
  rw [e, Finset.fold_map]
  rfl

theorem negInf : Ideal.ofBits FTy.f32 4286578688#32 = ⊥ := by simp [Ideal.ofBits, Ideal.ieee]
theorem posInf : Ideal.ofBits FTy.f32 2139095040#32 = ⊤ := by simp [Ideal.ofBits, Ideal.ieee]

end Cert.Value
-- ==== Proof.Value.Inputs.lean ====
/-
  The kernel's input windows, read at an index: each is an argument array, some reshaped, transposed or sliced by the host before the call.
-/
module

public import proofs.«01_k».proof.Proof.Body.Data
public import proofs.«01_k».proof.Proof.Value.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Value

open Cert.KernelIdeal Cert.KernelIdeal.Gen Cert.KernelIdeal.Hand
open Idealize.ShloMosaic Idealize.ShloMosaic.TcCoe

variable (m : (ℓ : Loc nD τ sig) → Buf (Elt Ideal) ℓ) (c : Dev nD)

/-- The argument arrays of device `c`, by coordinates. -/
def argsK : Args where
  co i := (m ((c.tc : Thread nD τ).loc main_arg0) : FVec Ideal S128 .f32) (ix1 i)
  ex i := (m ((c.tc : Thread nD τ).loc main_arg1) : FVec Ideal S1x768 .f32) (ix2 0 i)
  sc := (m ((c.tc : Thread nD τ).loc main_arg2) : FVec Ideal S1 .f32) (ix1 0)
  h0 i j := (m ((c.tc : Thread nD τ).loc main_arg4) : FVec Ideal S1x128x256 .f32) (ix3 0 i j)
  vs i j := (m ((c.tc : Thread nD τ).loc main_arg5) : FVec Ideal S2048x100 .f32) (ix2 i j)
  hs i j k := (m ((c.tc : Thread nD τ).loc main_arg6) : FVec Ideal S2048x128x256 .f32) (ix3 i j k)
  Wr i j := (m ((c.tc : Thread nD τ).loc main_arg7) : FVec Ideal S100x768 .f32) (ix2 i j)
  br i := (m ((c.tc : Thread nD τ).loc main_arg8) : FVec Ideal S100 .f32) (ix1 i)
  Wk i j := (m ((c.tc : Thread nD τ).loc main_arg9) : FVec Ideal S64x128 .f32) (ix2 i j)
  bk i := (m ((c.tc : Thread nD τ).loc main_arg10) : FVec Ideal S64 .f32) (ix1 i)
  km i j := (m ((c.tc : Thread nD τ).loc main_arg11) : FVec Ideal S128x64 .f32) (ix2 i j)
  Ws i := (m ((c.tc : Thread nD τ).loc main_arg12) : FVec Ideal S1x356 .f32) (ix2 0 i)
  bs := (m ((c.tc : Thread nD τ).loc main_arg13) : FVec Ideal S1 .f32) (ix1 0)
  Wih i j := (m ((c.tc : Thread nD τ).loc main_arg14) : FVec Ideal S768x101 .f32) (ix2 i j)
  Whh i j := (m ((c.tc : Thread nD τ).loc main_arg15) : FVec Ideal S768x256 .f32) (ix2 i j)
  bih i := (m ((c.tc : Thread nD τ).loc main_arg16) : FVec Ideal S768 .f32) (ix1 i)
  bhh i := (m ((c.tc : Thread nD τ).loc main_arg17) : FVec Ideal S768 .f32) (ix1 i)

/-- The first point's blocks of the windows read there start at the origin. -/
theorem first_index : (∀ a, win0_0.index pt0 a = 0) ∧ (∀ a, win0_1.index pt0 a = 0) ∧ (∀ a, win0_2.index pt0 a = 0) ∧ (∀ a, win0_3.index pt0 a = 0) ∧ (∀ a, win0_4.index pt0 a = 0) ∧ (∀ a, win0_5.index pt0 a = 0) ∧ (∀ a, win0_6.index pt0 a = 0) ∧ (∀ a, win0_7.index pt0 a = 0) ∧ (∀ a, win0_8.index pt0 a = 0) ∧ (∀ a, win0_9.index pt0 a = 0) ∧ (∀ a, win0_10.index pt0 a = 0) ∧ (∀ a, win0_11.index pt0 a = 0) ∧ (∀ a, win0_12.index pt0 a = 0) ∧ (∀ a, win0_13.index pt0 a = 0) ∧ (∀ a, win0_14.index pt0 a = 0) := by decide
/-- The last point's blocks of the windows read there start at the origin. -/
theorem last_index : (∀ a, win0_15.index pt32 a = 0) ∧ (∀ a, win0_16.index pt32 a = 0) ∧ (∀ a, win0_17.index pt32 a = 0) := by decide
/-- Before the last point, the history's block is the one of the point's number. -/
theorem hist_index : ∀ t : Fin cfg0.N, t.val < 32 → win0_18.index t 0 = t.val ∧ win0_18.index t 1 = 0 ∧ win0_18.index t 2 = 0 := by decide

theorem in1_at (i : Fin 768) : in1 m c (ix2 0 i) = (argsK m c).ex i := by
  blk_ext [iblk, V, first_index]

theorem in2_at (i : Fin 128) : in2 m c (ix2 0 i) = (argsK m c).co i := by
  rw [show in2 m c = V m c main_v0 from funext fun j => by blk_ext [iblk, first_index]]
  after_reads_at
  rfl

theorem in3_at : in3 m c (ix2 0 0) = (argsK m c).sc := by
  rw [show in3 m c = V m c main_v1 from funext fun j => by blk_ext [iblk, first_index]]
  after_reads_at
  rfl

theorem in4_at (i : Fin 128) (j : Fin 256) : in4 m c (ix2 i j) = (argsK m c).h0 i j := by
  rw [show in4 m c = V m c main_v2 from funext fun j => by blk_ext [iblk, first_index]]
  after_reads_at
  rfl

theorem in5_at (i : Fin 100) (j : Fin 2048) : in5 m c (ix2 i j) = (argsK m c).vs j i := by
  rw [show in5 m c = V m c main_v3 from funext fun j => by blk_ext [iblk, first_index]]
  after_reads_at
  rfl

theorem in6_at (i : Fin 768) (j : Fin 100) : in6 m c (ix2 i j) = (argsK m c).Wr j i := by
  rw [show in6 m c = V m c main_v4 from funext fun j => by blk_ext [iblk, first_index]]
  after_reads_at
  rfl

theorem in7_at (i : Fin 100) : in7 m c (ix2 0 i) = (argsK m c).br i := by
  rw [show in7 m c = V m c main_v5 from funext fun j => by blk_ext [iblk, first_index]]
  after_reads_at
  rfl

theorem in8_at (i : Fin 128) (j : Fin 64) : in8 m c (ix2 i j) = (argsK m c).Wk j i := by
  rw [show in8 m c = V m c main_v6 from funext fun j => by blk_ext [iblk, first_index]]
  after_reads_at
  rfl

theorem in9_at (i : Fin 64) : in9 m c (ix2 0 i) = (argsK m c).bk i := by
  rw [show in9 m c = V m c main_v7 from funext fun j => by blk_ext [iblk, first_index]]
  after_reads_at
  rfl

theorem in10_at (i : Fin 64) (j : Fin 128) : in10 m c (ix2 i j) = (argsK m c).km j i := by
  rw [show in10 m c = V m c main_v8 from funext fun j => by blk_ext [iblk, first_index]]
  after_reads_at
  rfl

theorem in11_at (i : Fin 100) (j : Fin 768) : in11 m c (ix2 i j) = (argsK m c).Wih j ⟨i.val, by omega⟩ := by
  rw [show in11 m c = V m c main_v16 from funext fun j => by blk_ext [iblk, first_index]]
  after_reads_at
  rfl

theorem in12_at (j : Fin 768) : in12 m c (ix2 0 j) = (argsK m c).Wih j 100 := by
  rw [show in12 m c = V m c main_v17 from funext fun j => by blk_ext [iblk, first_index]]
  after_reads_at
  rfl

theorem in13_at (j : Fin 768) : in13 m c (ix2 0 j) = (argsK m c).bih j := by
  rw [show in13 m c = V m c main_v10 from funext fun j => by blk_ext [iblk, first_index]]
  after_reads_at
  rfl

theorem in14_at (i : Fin 256) (j : Fin 768) : in14 m c (ix2 i j) = (argsK m c).Whh j i := by
  rw [show in14 m c = V m c main_v11 from funext fun j => by blk_ext [iblk, first_index]]
  after_reads_at
  rfl

theorem in15_at (j : Fin 768) : in15 m c (ix2 0 j) = (argsK m c).bhh j := by
  rw [show in15 m c = V m c main_v12 from funext fun j => by blk_ext [iblk, first_index]]
  after_reads_at
  rfl

theorem in16_at (i : Fin 100) : in16 m c (ix2 0 i) = (argsK m c).Ws ⟨i.val, by omega⟩ := by
  rw [show in16 m c = V m c main_v13 from funext fun j => by blk_ext [iblk, last_index]]
  after_reads_at
  rfl

theorem in17_at (i : Fin 256) : in17 m c (ix2 0 i) = (argsK m c).Ws ⟨100 + i.val, by omega⟩ := by
  rw [show in17 m c = V m c main_v14 from funext fun j => by blk_ext [iblk, last_index]]
  after_reads_at
  rfl

theorem in18_at : in18 m c (ix2 0 0) = (argsK m c).bs := by
  rw [show in18 m c = V m c main_v15 from funext fun j => by blk_ext [iblk, last_index]]
  after_reads_at
  rfl

/-- Row `i` of the history's block at point `t` is row `64 t + i` of the history. -/
theorem hsBlk_at (t : Fin cfg0.N) (ht : t.val < 32) (i : Fin 64) (j : Fin 128) (k : Fin 256) :
    hsBlk m c t (ix3 i j k) = (argsK m c).hs ⟨64 * t.val + i.val, by omega⟩ j k := by
  blk_ext [iblk, V, hist_index t ht]

end Cert.Value
-- ==== Proof.Value.Pre.lean ====
/-
  The precondition read back: where it holds, the arrays the two softmaxes' scores are computed from hold real numbers.
-/
module

public import proofs.«01_k».proof.Defs
public import proofs.«01_k».proof.Proof.Value.Inputs
public import Idealize.ShloMosaic.Lib.ReduceAll

@[expose] public section

set_option maxRecDepth 16384

noncomputable section

namespace Cert.Value

open Cert.Pre_real_scores_inputs
open Idealize.ShloMosaic Idealize.ShloMosaic.TcCoe

/-- The predicate's side conditions. -/
instance preFacts : Cert.Pre_real_scores_inputs.Facts := by
  constructor <;> decide

/-- An array all of whose elements lie strictly between the infinities holds real numbers. -/
theorem real_of_all {s : Shape} {axes : List (Fin s.rank)} (x : FVec Ideal s .f32) (bc : S_.BroadcastsInDim s (![] : Fin 0 → Fin s.rank))
    (hr : s.ReducesTo axes S_) (hu : 0 < S_.numel) (j : S_.Idx)
    (h : Host.reduce IntOp.andi (andi (cmpf .ogt x (broadcastInDim s ![] bc (constant (F := Ideal) S_ .f32 0xFF800000#32)))
      (cmpf .olt x (broadcastInDim s ![] bc (constant (F := Ideal) S_ .f32 0x7F800000#32)))) (constantI S_ 1 1#1) hr hu j = 1#1)
    (i : s.Idx) : IsReal (x i) := by
  have : Subsingleton S_.Idx := ⟨fun a b => funext fun k => k.elim0⟩
  obtain ⟨h1, h2⟩ := IntOp.andi_eq_one.mp (Host.reduce_andi_all _ _ hr hu j h i)
  have h1' : Ideal.cmp .ogt (x i) (Ideal.ofBits FTy.f32 4286578688#32) = 1#1 := h1
  have h2' : Ideal.cmp .olt (x i) (Ideal.ofBits FTy.f32 2139095040#32) = 1#1 := h2
  rw [negInf] at h1'
  rw [posInf] at h2'
  refine IsReal.of_ne (fun e => ?_) (fun e => ?_)
  · rw [e] at h1'
    simp [Ideal.cmp] at h1'
  · rw [e] at h2'
    simp [Ideal.cmp] at h2'

/-- Both halves of a conjunction which came out true are true. -/
theorem both_of_andi {s : Shape} (a b : IVec s 1) (j : s.Idx) (h : andi a b j = 1#1) : a j = 1#1 ∧ b j = 1#1 :=
  IntOp.andi_eq_one.mp h

open Cert.KernelIdeal in
/-- Where the precondition holds, every array the scores are computed from holds real numbers. -/
theorem args_real (m : (ℓ : Loc nD τ sig) → Buf (Elt Ideal) ℓ) (h : Pre_KernelIdeal_real_scores_inputs m) (c : Dev nD) :
    (argsK m c).Real := by
  have e := congrFun (h c) ix0
  dsimp only [fn, fn_part1, fn_part2, fn_part3] at e
  obtain ⟨e, h8⟩ := both_of_andi _ _ _ e
  obtain ⟨e, h7⟩ := both_of_andi _ _ _ e
  obtain ⟨e, h6⟩ := both_of_andi _ _ _ e
  obtain ⟨e, h5⟩ := both_of_andi _ _ _ e
  obtain ⟨e, h4⟩ := both_of_andi _ _ _ e
  obtain ⟨e, h3⟩ := both_of_andi _ _ _ e
  obtain ⟨h1, h2⟩ := both_of_andi _ _ _ e
  constructor
  · exact fun i => real_of_all _ _ _ _ _ h1 (ix1 i)
  · exact fun i => real_of_all _ _ _ _ _ h2 (ix2 0 i)
  · exact fun i j => real_of_all _ _ _ _ _ h3 (ix2 i j)
  · exact fun i j => real_of_all _ _ _ _ _ h4 (ix2 i j)
  · exact fun i => real_of_all _ _ _ _ _ h5 (ix1 i)
  · exact fun i j => real_of_all _ _ _ _ _ h6 (ix2 i j)
  · exact fun i => real_of_all _ _ _ _ _ h7 (ix1 i)
  · exact fun i j => real_of_all _ _ _ _ _ h8 (ix2 i j)

end Cert.Value
-- ==== Proof.Value.Select.lean ====
/-
  The kernel's selection loop takes the scores in the order of Pick.lean: trip `k` finds the greatest score left and the
  first position that holds it, stores both and takes the score out.
-/
module

public import proofs.«01_k».proof.Proof.Body.First
public import proofs.«01_k».proof.Proof.Value.Spec
public import Idealize.ShloMosaic.Lib.SortNet.Extract

@[expose] public section

set_option maxRecDepth 16384

noncomputable section

namespace Cert.Value

open Cert.KernelIdeal Cert.KernelIdeal.Gen Cert.KernelIdeal.Hand
open Idealize.ShloMosaic

theorem pay9_eq (x : FVec Ideal S1x2048 .f32) : k0_pay9 (F := Ideal) x = peak fun r => x (ix2 0 r) := by
  pointwise [k0_pay9]
  rw [negInf]
  exact fold_one_prod max ⊥ fun r => x (ix2 0 r)

/-- A signed minimum over words is the word that is least, the start not below it. -/
theorem fold_minsi {n : ℕ} (b : BitVec 32) (f : Fin n → BitVec 32) (p : Fin n) (hb : (f p).toInt ≤ b.toInt)
    (hp : ∀ r, (f p).toInt ≤ (f r).toInt) : Finset.univ.fold IntOp.minsi b f = f p := by
  refine BitVec.eq_of_toInt_eq ?_
  rw [← Finset.fold_hom (op' := min) (m := BitVec.toInt) (SortNet.toInt_minsi (w := 32))]
  refine le_antisymm ?_ ?_
  · exact Finset.fold_min_le _ |>.mpr (Or.inr ⟨p, Finset.mem_univ _, le_rfl⟩)
  · exact Finset.le_fold_min _ |>.mpr ⟨hb, fun r _ => hp r⟩

theorem toInt_small {p : ℕ} (h : p ≤ 2048) : (BitVec.ofNat 32 p).toInt = p := by
  rw [BitVec.toInt_eq_toNat_cond, BitVec.toNat_ofNat, Nat.mod_eq_of_lt (by omega), if_pos (by omega)]

/-- The position a trip stores: the first that holds the greatest score. -/
theorem pay10_eq (x : FVec Ideal S1x2048 .f32) (p : Fin 2048) (hp : x (ix2 0 p) = k0_pay9 (F := Ideal) x)
    (hmin : ∀ r : Fin 2048, x (ix2 0 r) = k0_pay9 (F := Ideal) x → p ≤ r) :
    extractAt ![0, 0, 0] (k0_pay10 (F := Ideal) x) inpos_S1x1x1_p0_0_0 = BitVec.ofNat 32 p.val := by
  pointwise [k0_pay10]
  refine (fold_one_prod IntOp.minsi _ fun r : Fin 2048 =>
    if x (ix2 0 r) = k0_pay9 (F := Ideal) x then BitVec.ofNat 32 r.val else 2048#32).trans ?_
  refine (fold_minsi _ _ p ?_ fun r => ?_).trans (if_pos hp)
  · rw [if_pos hp, toInt_small (by omega)]
    have : (2147483647#32).toInt = 2147483647 := by decide
    omega
  · rw [if_pos hp, toInt_small (by omega)]
    split
    · rename_i h
      rw [toInt_small (by omega)]
      have := hmin r h
      exact_mod_cast this
    · have : (2048#32).toInt = 2048 := by decide
      omega

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A choice by a test that two small words are equal. -/
theorem select_eq {α : Type} {a b : ℕ} (ha : a < 2 ^ 32) (hb : b < 2 ^ 32) (x y : α) :
    Scalar.select (IntOp.cmpi CmpIPredicate.eq (BitVec.ofNat 32 a) (BitVec.ofNat 32 b)) x y = if a = b then x else y := by
  by_cases h : a = b
  · subst h; rw [if_pos rfl]; simp [Scalar.select, IntOp.cmpi]
  · rw [if_neg h]
    have : BitVec.ofNat 32 a ≠ BitVec.ofNat 32 b := fun e => h ((ofNat_inj ha hb).mp e)
    exact if_neg fun e => this (IntOp.cmpi_eq.mp e)

theorem iv_eq (k : ℕ) : Scf.iv 0#32 1#32 k = BitVec.ofNat 32 k := by
  simp [Scf.iv]

variable (x : FVec Ideal S1x2048 .f32) (β : Fin 2048 → EReal)

/-- What the loop carries before trip `k`. -/
theorem selSt_eq (hx : ∀ r : Fin 2048, x (ix2 0 r) = β r) (hβ : ∀ r, β r ≠ ⊥) (k : ℕ) (hk : k ≤ 64) :
    (∀ r : Fin 2048, (selSt (F := Ideal) x k).1 (ix2 0 r) = left β k r)
    ∧ ∀ i : Fin 64, (selSt (F := Ideal) x k).2 (ix2 0 i) = if i.val < k then β (pick β (i.castLE (by decide))) else ⊥ := by
  induction k with
  | zero =>
    refine ⟨fun r => by rw [left_zero]; exact hx r, fun i => ?_⟩
    rw [if_neg (by omega)]
    show k0_pay8 (F := Ideal) (ix2 0 i) = ⊥
    pointwise [k0_pay8]
    exact negInf
  | succ k ih =>
    obtain ⟨h1, h2⟩ := ih (by omega)
    have ht : k < k0_t1_loop.trips := by rw [trips1]; omega
    have e9 : k0_pay9 (F := Ideal) (selSt (F := Ideal) x k).1 = β (pick β ⟨k, by omega⟩) := by
      rw [pay9_eq]
      exact (congrArg peak (funext h1)).trans (fold_left β ⟨k, by omega⟩)
    have e10 : extractAt ![0, 0, 0] (k0_pay10 (F := Ideal) (selSt (F := Ideal) x k).1) inpos_S1x1x1_p0_0_0
        = BitVec.ofNat 32 (pick β ⟨k, by omega⟩).val :=
      pay10_eq _ _ (by rw [e9, h1]; exact left_pick_of_le β (i := ⟨k, by omega⟩) le_rfl)
        fun r hr => pick_le_of_left_eq β hβ ⟨k, by omega⟩ r (by rw [← h1, hr, e9])
    rw [selSt, dif_pos ht]
    refine ⟨fun r => ?_, fun i => ?_⟩
    · have e10' : k0_pay10 (F := Ideal) (selSt (F := Ideal) x k).1 (ix3 0 0 0) = BitVec.ofNat 32 (pick β ⟨k, by omega⟩).val := by
        pointwise at e10
        exact e10
      have := left_succ β ⟨k, by omega⟩ r
      dsimp only at this ⊢
      pointwise [k0_pay11]
      rw [e10', select_eq (by omega) (by omega), negInf, h1, this]
      simp only [Fin.ext_iff]
    · dsimp only
      pointwise [k0_pay12]
      rw [iv_eq, select_eq (by omega) (by omega), e9, h2]
      by_cases h : i.val = k
      · rw [if_pos h, if_pos (by omega)]
        subst h; rfl
      · rw [if_neg h]
        by_cases h' : i.val < k
        · rw [if_pos h', if_pos (by omega)]
        · rw [if_neg h', if_neg (by omega)]

/-- The word trip `k` stores is the position taken `k`-th. -/
theorem selWord_eq (hx : ∀ r : Fin 2048, x (ix2 0 r) = β r) (hβ : ∀ r, β r ≠ ⊥) (k : Fin 64) :
    selWord (F := Ideal) x k.val = BitVec.ofNat 32 (pick β (k.castLE (by decide))).val := by
  obtain ⟨h1, -⟩ := selSt_eq x β hx hβ k.val k.isLt.le
  have e9 : k0_pay9 (F := Ideal) (selSt (F := Ideal) x k.val).1 = β (pick β (k.castLE (by decide))) := by
    rw [pay9_eq]
    exact (congrArg peak (funext h1)).trans (fold_left β (k.castLE (by decide)))
  exact pay10_eq _ _ (by rw [e9, h1]; exact left_pick_of_le β le_rfl)
    fun r hr => pick_le_of_left_eq β hβ (k.castLE (by decide)) r (by rw [← e9, ← hr]; exact (h1 r).symm)

/-- The list of the scores taken. -/
theorem topVals_eq (hx : ∀ r : Fin 2048, x (ix2 0 r) = β r) (hβ : ∀ r, β r ≠ ⊥) (i : Fin 64) :
    topVals (F := Ideal) x (ix2 0 i) = β (pick β (i.castLE (by decide))) := by
  unfold topVals
  rw [trips1]
  exact ((selSt_eq x β hx hβ 64 le_rfl).2 i).trans (if_pos i.isLt)

end Cert.Value
-- ==== Proof.Value.Values.lean ====
/-
  What the kernel's first point computes from its input windows is the mathematics of Spec.lean: the topic, the scores, the
  weights of the rows taken, the slots' weights and the new hidden state.
-/
module

public import proofs.«01_k».proof.Proof.Value.Inputs
public import proofs.«01_k».proof.Proof.Value.Select

@[expose] public section

set_option maxRecDepth 16384

noncomputable section

namespace Cert.Value

open Cert.KernelIdeal Cert.KernelIdeal.Gen Cert.KernelIdeal.Hand
open Idealize.ShloMosaic Idealize.ShloMosaic.TcCoe

/-! ## The payloads at an index -/

theorem pay5_at (x1 : Vec Ideal S1x768 .f32) (x6 : Vec Ideal S768x100 .f32) (x7 : Vec Ideal S1x100 .f32) (j : Fin 100) :
    k0_pay5 x1 x6 x7 (ix2 0 j) = (∑ k, x1 (ix2 0 k) * x6 (ix2 k j)) + x7 (ix2 0 j) := by
  pointwise [k0_pay5]

theorem pay7_at (x1 : Vec Ideal S1x768 .f32) (x6 : Vec Ideal S768x100 .f32) (x7 : Vec Ideal S1x100 .f32)
    (x5 : Vec Ideal S100x2048 .f32) (r : Fin 2048) :
    k0_pay7 x1 x6 x7 x5 (ix2 0 r) = ∑ j, k0_pay5 x1 x6 x7 (ix2 0 j) * x5 (ix2 j r) := by
  pointwise [k0_pay7]

theorem pay13_at (x : FVec Ideal S1x64 .f32) (f : Fin 64 → EReal) (hx : ∀ i : Fin 64, x (ix2 0 i) = f i) (k : Fin 64) :
    k0_pay13 x (ix2 0 k) = soft f k := by
  pointwise [k0_pay13]
  simp only [hx, negInf, Finset.univ_unique, Finset.sum_const, Finset.card_singleton, one_smul]
  rw [fold_one_prod max ⊥ f]
  rfl

theorem pay15_at (x2 : Vec Ideal S1x128 .f32) (x8 : Vec Ideal S128x64 .f32) (x9 : Vec Ideal S1x64 .f32)
    (x10 : Vec Ideal S64x128 .f32) (f : Fin 128 → EReal)
    (hf : ∀ s : Fin 128, (∑ k, ((∑ d, x2 (ix2 0 d) * x8 (ix2 d k)) + x9 (ix2 0 k)) * x10 (ix2 k s)) = f s) (s : Fin 128) :
    k0_pay15 x2 x8 x9 x10 (ix2 0 s) = soft f s := by
  pointwise [k0_pay15]
  simp only [hf, negInf, Finset.univ_unique, Finset.sum_const, Finset.card_singleton, one_smul]
  rw [fold_one_prod max ⊥ f]
  rfl

theorem pay17_at (t : FVec Ideal S1x100 .f32) (x11 : Vec Ideal S100x768 .f32) (q : Fin 768) :
    k0_pay17 t x11 (ix2 0 q) = ∑ j, t (ix2 0 j) * x11 (ix2 j q) := by
  pointwise [k0_pay17]

theorem pay18_at (x3 : Vec Ideal S1x1 .f32) : k0_pay18 x3 = x3 (ix2 0 0) := by
  pointwise [k0_pay18]

/-- The new hidden state, over the attention, the topic's product and the score. -/
theorem pay19_at (a : FVec Ideal S1x128 .f32) (p : FVec Ideal S1x768 .f32) (sc : EReal) (x12 x13 : Vec Ideal S1x768 .f32)
    (x4 : Vec Ideal S128x256 .f32) (x14 : Vec Ideal S256x768 .f32) (x15 : Vec Ideal S1x768 .f32) (A : Args)
    (hi : ∀ (s : Fin 128) (q : Fin 768), a (ix2 0 s) * (p (ix2 0 q) + sc * x12 (ix2 0 q)) + x13 (ix2 0 q) = A.gi s q)
    (hh : ∀ (s : Fin 128) (q : Fin 768), (∑ k, x4 (ix2 s k) * x14 (ix2 k q)) + x15 (ix2 0 q) = A.gh s q)
    (h0 : ∀ (s : Fin 128) (d : Fin 256), x4 (ix2 s d) = A.h0 s d) (s : Fin 128) (d : Fin 256) :
    k0_pay19 (F := Ideal) a p sc x12 x13 x4 x14 x15 (ix2 s d) = A.hid s d := by
  pointwise [k0_pay19]
  simp only [hi, hh]
  rw [h0]
  rfl

/-! ## Over the argument arrays -/

variable (m : (ℓ : Loc nD τ sig) → Buf (Elt Ideal) ℓ) (c : Dev nD)

theorem topicV_at (j : Fin 100) : topicV m c (ix2 0 j) = (argsK m c).topic j := by
  unfold topicV
  rw [pay5_at]
  simp only [in1_at, in6_at, in7_at]
  rfl

theorem topicS_at (j : Fin 100) : topicS m c (ix2 0 j) = (argsK m c).topic j := by
  refine Eq.trans ?_ (topicV_at m c j)
  unfold topicS topicV
  generalize in1 m c = x1
  generalize in6 m c = x6
  generalize in7 m c = x7
  pointwise [k0_pay6]

theorem scoreV_at (r : Fin 2048) : scoreV m c (ix2 0 r) = (argsK m c).beta r := by
  unfold scoreV
  rw [pay7_at]
  refine Finset.sum_congr rfl fun j _ => ?_
  rw [in5_at]
  exact congrArg (· * (argsK m c).vs r j) (topicV_at m c j)

theorem wtV_at (h : (argsK m c).Real) (k : Fin 64) : wtV m c (ix2 0 k) = (argsK m c).wt k :=
  pay13_at _ _ (topVals_eq (scoreV m c) (argsK m c).beta (scoreV_at m c) fun r => (h.beta r).ne_bot) k

theorem wtS_at (h : (argsK m c).Real) (k : Fin 64) : wtS m c (ix2 0 k) = (argsK m c).wt k := by
  rw [← wtV_at m c h k]
  unfold wtS
  generalize wtV m c = w
  pointwise [k0_pay14]

theorem alpha_at (s : Fin 128) : k0_pay15 (in2 m c) (in8 m c) (in9 m c) (in10 m c) (ix2 0 s) = (argsK m c).alpha s :=
  pay15_at _ _ _ _ _ (fun s => by simp only [in2_at, in8_at, in9_at, in10_at]; rfl) s

theorem alphaV_at (s : Fin 128) : alphaV m c (ix2 0 s) = (argsK m c).alpha s := by
  rw [← alpha_at m c s]
  unfold alphaV
  generalize in2 m c = x2
  generalize in8 m c = x8
  generalize in9 m c = x9
  generalize in10 m c = x10
  pointwise [k0_pay16]

theorem hid_at (s : Fin 128) (d : Fin 256) :
    k0_pay19 (k0_pay15 (in2 m c) (in8 m c) (in9 m c) (in10 m c)) (k0_pay17 (topicV m c) (in11 m c)) (k0_pay18 (in3 m c))
      (in12 m c) (in13 m c) (in4 m c) (in14 m c) (in15 m c) (ix2 s d) = (argsK m c).hid s d := by
  refine pay19_at _ _ _ _ _ _ _ _ _ (fun s q => ?_) (fun s q => ?_) (fun s d => in4_at m c s d) s d
  · rw [alpha_at, pay17_at, pay18_at, in12_at, in13_at, in3_at]
    simp only [topicV_at, in11_at]
    rfl
  · simp only [in4_at, in14_at, in15_at]
    rfl

theorem hidV_at (s : Fin 128) (d : Fin 256) : hidV m c (ix2 s d) = (argsK m c).hid s d := by
  rw [← hid_at m c s d]
  unfold hidV newHid k0_pay20
  generalize k0_pay19 (F := Ideal) _ _ _ _ _ _ _ _ = v
  pointwise

theorem hidV3_at (s : Fin 128) (d : Fin 256) : hidV3 m c (ix3 0 s d) = (argsK m c).hid s d := by
  rw [← hid_at m c s d]
  unfold hidV3 newHid3 k0_pay21
  generalize k0_pay19 (F := Ideal) _ _ _ _ _ _ _ _ = v
  pointwise

end Cert.Value
-- ==== Proof.Value.Gather.lean ====
/-
  The gather: every row taken lies in exactly one of the history's 32 blocks, and the points, one block each, add its
  weighted row to the accumulator, so that after the last block the accumulator holds the whole weighted sum.
-/
module

public import proofs.«01_k».proof.Proof.Value.Values

@[expose] public section

set_option maxRecDepth 16384

noncomputable section

namespace Cert.Value

open Cert.KernelIdeal Cert.KernelIdeal.Gen Cert.KernelIdeal.Hand
open Idealize.ShloMosaic Idealize.ShloMosaic.TcCoe

/-- What trip `k` adds: the weighted row, taken out of a vector of weights by comparing places. -/
theorem pay2_at (k : Fin k0_t2_loop.trips) (w : Vec Ideal S1x64 .f32) (a : Vec Ideal S128x256 .f32)
    (row : Vec Ideal S1x128x256 .f32) (s : Fin 128) (d : Fin 256) :
    k0_pay2 k w a row (ix2 s d) = a (ix2 s d) + w (ix2 0 (k.cast trips2)) * row (ix3 0 s d) := by
  have hk : k.val < 64 := trips2 ▸ k.isLt
  pointwise [k0_pay2]
  simp only [Finset.univ_unique, Finset.sum_const, Finset.card_singleton, one_smul, iv_eq]
  have e : (∑ x : Fin 64, Scalar.select (IntOp.cmpi .eq (BitVec.ofNat 32 x.val) (BitVec.ofNat 32 k.val)) (w (ix2 0 x)) 0)
      = w (ix2 0 (k.cast trips2)) := by
    rw [Finset.sum_eq_single (k.cast trips2)]
    · rw [select_eq (by omega) (by omega)]; exact if_pos rfl
    · intro b _ hb
      rw [select_eq (by omega) (by omega)]; exact if_neg fun h => hb (Fin.ext h)
    · exact fun h => absurd (Finset.mem_univ _) h
  rw [e]
  rfl

theorem rowAt_at (i : grid0.Coords) (h2 : k0_cond2 i = 1#1) (v : BitVec 32) (h3 : k0_cond3 i v = 1#1)
    (X : FVec Ideal S64x128x256 .f32) (s : Fin 128) (d : Fin 256) :
    rowAt i h2 v h3 X (ix3 0 s d) = X (ix3 ⟨place i v, (cond3_iff i v).mp h3⟩ s d) := by
  unfold rowAt
  refine congrArg X (funext fun a => Fin.ext ?_)
  have := off3_eq i v
  fin_cases a
  · show k0_off3 i v 0 + 1 * 0 = place i v
    rw [off3_eq]; rfl
  · show k0_off3 i v 1 + 1 * s.val = s.val
    rw [off3_eq]; show 0 + 1 * s.val = s.val; omega
  · show k0_off3 i v 2 + 1 * d.val = d.val
    rw [off3_eq]; show 0 + 1 * d.val = d.val; omega

/-- What one block adds for row `p` of weight `w`. -/
def share (i : grid0.Coords) (v : BitVec 32) (w : EReal) (X : FVec Ideal S64x128x256 .f32) (s : Fin 128) (d : Fin 256) : EReal :=
  if h : place i v < 64 then w * X (ix3 ⟨place i v, h⟩ s d) else 0

theorem accTrip_at (i : grid0.Coords) (h2 : k0_cond2 i = 1#1) (g : S64.Idx → BitVec 32) (w : FVec Ideal S1x64 .f32)
    (X : FVec Ideal S64x128x256 .f32) (k : Fin k0_t2_loop.trips) (a : FVec Ideal S128x256 .f32) (s : Fin 128) (d : Fin 256) :
    accTrip i h2 g w X k a (ix2 s d)
      = a (ix2 s d) + share i (g (ix1 (k.cast trips2))) (w (ix2 0 (k.cast trips2))) X s d := by
  rw [show g (ix1 (k.cast trips2)) = wordAt g k from rfl]
  unfold accTrip share
  by_cases h : place i (wordAt g k) < 64
  · rw [dif_pos ((cond3_iff _ _).mpr h), dif_pos h, pay2_at, rowAt_at]
  · rw [dif_neg fun h3 => h ((cond3_iff _ _).mp h3), dif_neg h, add_zero]

theorem accLoop_at (i : grid0.Coords) (h2 : k0_cond2 i = 1#1) (g : S64.Idx → BitVec 32) (w : FVec Ideal S1x64 .f32)
    (X : FVec Ideal S64x128x256 .f32) (a : FVec Ideal S128x256 .f32) (s : Fin 128) (d : Fin 256) (n : ℕ) (hn : n ≤ 64) :
    accLoop i h2 g w X a n (ix2 s d) = a (ix2 s d)
      + ∑ k ∈ Finset.range n, if h : k < 64 then share i (g (ix1 (⟨k, h⟩ : Fin 64))) (w (ix2 0 (⟨k, h⟩ : Fin 64))) X s d else 0 := by
  induction n with
  | zero => rw [Finset.range_zero, Finset.sum_empty, add_zero]; rfl
  | succ n ih =>
    have hn' : n < k0_t2_loop.trips := by rw [trips2]; omega
    rw [accLoop, dif_pos hn', accTrip_at, ih (by omega), Finset.sum_range_succ, dif_pos (by omega), add_assoc]
    rfl

theorem accStep_at (i : grid0.Coords) (h2 : k0_cond2 i = 1#1) (g : S64.Idx → BitVec 32) (w : FVec Ideal S1x64 .f32)
    (X : FVec Ideal S64x128x256 .f32) (a : FVec Ideal S128x256 .f32) (s : Fin 128) (d : Fin 256) :
    accStep i h2 g w X a (ix2 s d) = a (ix2 s d) + ∑ k : Fin 64, share i (g (ix1 k)) (w (ix2 0 k)) X s d := by
  unfold accStep
  rw [trips2, accLoop_at i h2 g w X a s d 64 le_rfl, Finset.sum_range]
  exact congrArg _ (Finset.sum_congr rfl fun k _ => dif_pos k.isLt)

/-! ## Over the history's blocks -/

theorem coord_eq : ∀ t : Fin cfg0.N, (grid0.coords t 0).val = t.val := by decide

/-- A row's place in block `t`, when it lies there. -/
theorem place_eq (t : Fin cfg0.N) (r : Fin 2048) (ht : t.val < 32) :
    (place (grid0.coords t) (BitVec.ofNat 32 r.val) < 64 ↔ r.val / 64 = t.val)
    ∧ (r.val / 64 = t.val → 64 * t.val + place (grid0.coords t) (BitVec.ofNat 32 r.val) = r.val) := by
  unfold place
  rw [coord_eq]
  have e : (BitVec.ofNat 32 r.val - BitVec.ofNat 32 t.val * 64#32).toNat = (2 ^ 32 - t.val * 64 + r.val) % 2 ^ 32 := by
    rw [BitVec.toNat_sub, BitVec.toNat_mul, BitVec.toNat_ofNat, BitVec.toNat_ofNat, BitVec.toNat_ofNat]
    have := r.isLt
    congr 1
    congr 1
    · congr 1
      rw [Nat.mod_eq_of_lt (a := t.val) (by omega)]
      omega
    · omega
  rw [e]
  have := r.isLt
  constructor
  · omega
  · omega

variable (m : (ℓ : Loc nD τ sig) → Buf (Elt Ideal) ℓ) (c : Dev nD)

theorem tab_at (h : (argsK m c).Real) (k : Fin 64) : tabV m c (ix1 k) = BitVec.ofNat 32 ((argsK m c).top k).val :=
  selWord_eq (scoreV m c) (argsK m c).beta (scoreV_at m c) (fun r => (h.beta r).ne_bot) k

theorem share_at (h : (argsK m c).Real) (t : Fin cfg0.N) (ht : t.val < 32) (s : Fin 128) (d : Fin 256) (k : Fin 64) :
    share (grid0.coords t) (tabV m c (ix1 k)) (wtS m c (ix2 0 k)) (hsBlk m c t) s d
      = if ((argsK m c).top k).val / 64 = t.val then (argsK m c).wt k * (argsK m c).hs ((argsK m c).top k) s d else 0 := by
  rw [tab_at m c h, wtS_at m c h]
  unfold share
  obtain ⟨h1, h2⟩ := place_eq t ((argsK m c).top k) ht
  by_cases hp : ((argsK m c).top k).val / 64 = t.val
  · rw [dif_pos (h1.mpr hp), if_pos hp, hsBlk_at m c t ht]
    refine congrArg (fun r => (argsK m c).wt k * (argsK m c).hs r s d) (Fin.ext ?_)
    exact h2 hp
  · rw [dif_neg fun q => hp (h1.mp q), if_neg hp]

theorem accAt_at (h : (argsK m c).Real) (s : Fin 128) (d : Fin 256) (n : ℕ) (hn : n ≤ 32) :
    accAt m c n (ix2 s d) = ∑ k : Fin 64,
      if ((argsK m c).top k).val / 64 < n then (argsK m c).wt k * (argsK m c).hs ((argsK m c).top k) s d else 0 := by
  induction n with
  | zero =>
    simp only [Nat.not_lt_zero, if_false, Finset.sum_const_zero]
    unfold accAt
    pointwise [k0_pay1]
  | succ n ih =>
    have hN : n < cfg0.N := show n < 33 by omega
    rw [accAt_succ m c ⟨n, hN⟩ ((cond2_iff ⟨n, hN⟩).mpr (by show n < 32; omega)), accStep_at, ih (by omega),
      ← Finset.sum_add_distrib]
    refine Finset.sum_congr rfl fun k _ => ?_
    rw [share_at m c h ⟨n, hN⟩ (by show n < 32; omega)]
    show _ + (if ((argsK m c).top k).val / 64 = n then _ else _) = _
    by_cases h1 : ((argsK m c).top k).val / 64 < n
    · rw [if_pos h1, if_neg (by omega), if_pos (by omega), add_zero]
    · by_cases h2 : ((argsK m c).top k).val / 64 = n
      · rw [if_neg h1, if_pos h2, if_pos (by omega), zero_add]
      · rw [if_neg h1, if_neg h2, if_neg (by omega), add_zero]

/-- After the last block the accumulator holds the attention. -/
theorem acc_at (h : (argsK m c).Real) (s : Fin 128) (d : Fin 256) : accAt m c 32 (ix2 s d) = (argsK m c).attn s d := by
  rw [accAt_at m c h s d 32 le_rfl]
  exact Finset.sum_congr rfl fun k _ => if_pos (by have := ((argsK m c).top k).isLt; omega)

theorem pay4_at (a : Vec Ideal S1x128 .f32) (b : Vec Ideal S128x256 .f32) (t : Vec Ideal S1x100 .f32) (x16 : Vec Ideal S1x100 .f32)
    (x17 : Vec Ideal S1x256 .f32) (x18 : Vec Ideal S1x1 .f32) :
    k0_pay4 a b t x16 x17 x18 (ix2 0 0) = (∑ j, t (ix2 0 j) * x16 (ix2 0 j))
      + (∑ d, (∑ s, a (ix2 0 s) * b (ix2 s d)) * x17 (ix2 0 d)) + x18 (ix2 0 0) := by
  pointwise [k0_pay4]

theorem predV_at (h : (argsK m c).Real) : predV m c (ix2 0 0) = (argsK m c).pred := by
  unfold predV
  rw [pay4_at, in18_at]
  simp only [topicS_at, alphaV_at, acc_at m c h, in16_at, in17_at]
  rfl

end Cert.Value
-- ==== Proof.Value.Arrays.lean ====
/-
  The result arrays the kernel's call leaves: four written whole after the last point, and the extended history written a
  block a point.
-/
module

public import proofs.«01_k».proof.Proof.Value.Gather
public import proofs.«01_k».proof.Proof.Body.Launch

@[expose] public section

set_option maxRecDepth 16384

noncomputable section

namespace Cert.Value

open Cert.KernelIdeal Cert.KernelIdeal.Gen Cert.KernelIdeal.Hand
open Idealize.ShloMosaic Idealize.ShloMosaic.TcCoe

variable (m : (ℓ : Loc nD τ sig) → Buf (Elt Ideal) ℓ) (c : Dev nD)

theorem pred_array : ((dats m 0 c).arrAt 19 cfg0.N : FVec Ideal S1x1 .f32) = predV m c := by
  refine (dats m 0 c).arrAt_eq_of_after_last 19 pt32 (by decide +kernel) _ fun j => ?_
  rfl

theorem topic_array : ((dats m 0 c).arrAt 20 cfg0.N : FVec Ideal S1x100 .f32) = topicV m c := by
  refine (dats m 0 c).arrAt_eq_of_after_last 20 pt32 (by decide +kernel) _ fun j => ?_
  rfl

theorem wt_array : ((dats m 0 c).arrAt 21 cfg0.N : FVec Ideal S1x64 .f32) = wtV m c := by
  refine (dats m 0 c).arrAt_eq_of_after_last 21 pt32 (by decide +kernel) _ fun j => ?_
  rfl

theorem hid_array : ((dats m 0 c).arrAt 22 cfg0.N : FVec Ideal S1x128x256 .f32) = hidV3 m c := by
  refine (dats m 0 c).arrAt_eq_of_after_last 22 pt32 (by decide +kernel) _ fun j => ?_
  rfl

/-- The history with the new hidden state after its last row. -/
def longer : FVec Ideal S2049x128x256 .f32 := fun i =>
  if h : (i 0).val < 2048 then (argsK m c).hs ⟨(i 0).val, h⟩ (i 1) (i 2) else (argsK m c).hid (i 1) (i 2)

theorem out_index : ∀ t : Fin cfg0.N, win0_23.index t 0 = t.val ∧ win0_23.index t 1 = 0 ∧ win0_23.index t 2 = 0 := by decide

/-- The block a point leaves is its part of the longer history. -/
theorem histV_ix (t : Fin cfg0.N) (a : Fin 64) (i : Fin 128) (j : Fin 256) (r : Fin 2049) (h0 : r.val = 64 * t.val + a.val) :
    histV m c t (ix3 a i j) = longer m c (ix3 r i j) := by
  have ht : t.val < 33 := t.isLt
  unfold histV longer
  by_cases hl : t.val < 32
  · refine (congrFun (if_pos hl) _).trans (Eq.trans ?_ (dif_pos (show r.val < 2048 by omega)).symm)
    rw [hsBlk_at m c t hl]
    exact congrArg (fun r => (argsK m c).hs r i j) (Fin.ext h0.symm)
  · refine (congrFun (if_neg hl) _).trans (Eq.trans ?_ (dif_neg (show ¬ r.val < 2048 by omega)).symm)
    have ha : a = 0 := Fin.ext (show a.val = 0 by omega)
    subst ha
    have hin : ∀ x : Fin 3, (![0, 0, 0] : Fin 3 → ℕ) x ≤ ((ix3 0 i j : S64x128x256.Idx) x).val
        ∧ ((ix3 0 i j : S64x128x256.Idx) x).val < (![0, 0, 0] : Fin 3 → ℕ) x + S1x128x256.size x := fun x => by
      fin_cases x
      · exact ⟨Nat.zero_le _, show (0 : ℕ) < 0 + 1 by omega⟩
      · exact ⟨Nat.zero_le _, show i.val < 0 + 128 by omega⟩
      · exact ⟨Nat.zero_le _, show j.val < 0 + 256 by omega⟩
    have ey : Rect.unitLocal (s := S64x128x256) (off := ![0, 0, 0]) (size := S1x128x256.size) (ix3 0 i j) hin = (ix3 0 i j : S1x128x256.Idx) :=
      funext fun x => Fin.ext (by fin_cases x <;> rfl)
    unfold VecWindow.put
    refine (dif_pos hin).trans ?_
    rw [ey]
    refine Eq.trans ?_ (hidV_at m c i j)
    generalize hidV m c = v
    pointwise [k0_pay3]

theorem histV_at (t : Fin cfg0.N) (z : S64x128x256.Idx) (e : S2049x128x256.Idx) (h0 : (e 0).val = 64 * t.val + (z 0).val)
    (h1 : (e 1).val = (z 1).val) (h2 : (e 2).val = (z 2).val) : histV m c t z = longer m c e := by
  refine (congrArg (histV m c t) (eq_ix3 z)).trans ((histV_ix m c t (z 0) (z 1) (z 2) (e 0) h0).trans ?_)
  refine congrArg (longer m c) (funext fun x => Fin.ext ?_)
  fin_cases x
  · rfl
  · exact h1.symm
  · exact h2.symm

theorem hist_array : ((dats m 0 c).arrAt 23 cfg0.N : FVec Ideal S2049x128x256 .f32) = longer m c := by
  refine (dats m 0 c).arrAt_eq_of_covers 23 _ (by decide +kernel) fun t hf y => ?_
  blk_simp
  refine histV_at m c t _ _ ?_ ?_ ?_
  · blk_simp [out_index t]
    show _ = 64 * t.val + (y 0).val
    omega
  · blk_simp [out_index t]
  · blk_simp [out_index t]

end Cert.Value
-- ==== Proof.Value.Kernel.lean ====
/-
  The kernel's run, its five results over the argument arrays.
-/
module

public import proofs.«01_k».proof.Proof.Value.Arrays

@[expose] public section

set_option maxRecDepth 16384

noncomputable section

namespace Cert.Value

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- Every window has an array of its own. -/
theorem arrays_apart : Function.Injective (Pipeline.arrRef spec0) := by
  unfold Function.Injective
  decide

/-- What follows the call leaves the prediction as a vector of one. -/
theorem tail_pred (c : Dev nD) : (Pipeline.afterTail₀ cfgs (dats m) 0 (V0 m) [hostOps1] c main_v20 : FVec Ideal S1 .f32) (ix1 0)
    = predV m c (ix2 0 0) := by
  rw [← pred_array m c]
  unfold Pipeline.afterTail₀
  after_reads_at
  exact congrFun (Pipeline.withArrays_arr spec0 arrays_apart c _ _ 19) _

/-- The exercises' history with the topic after its last row. -/
abbrev topics (c : Dev nD) : FVec Ideal S2049x100 .f32 :=
  concatenate S2049x100 0 [⟨S2048x100, m ((c.tc : Thread nD τ).loc main_arg5)⟩, ⟨S1x100, topicV m c⟩]
    concatenates_S2048x100_S1x100_S2049x100_d0

/-- What follows the call puts the topic after the exercises' history. -/
theorem tail_topic (c : Dev nD) : (Pipeline.afterTail₀ cfgs (dats m) 0 (V0 m) [hostOps1] c main_v19 : FVec Ideal S2049x100 .f32)
    = topics m c := by
  unfold topics
  rw [← topic_array m c]
  unfold Pipeline.afterTail₀
  after_reads_simp
  refine congrArg₂ (fun (a : FVec Ideal S2048x100 .f32) (b : FVec Ideal S1x100 .f32) =>
    concatenate S2049x100 0 [⟨S2048x100, a⟩, ⟨S1x100, b⟩] concatenates_S2048x100_S1x100_S2049x100_d0) ?_ ?_
  · exact (Pipeline.withArrays_of_ne spec0 c (V0 m c) (fun w => (dats m 0 c).arrAt w cfg0.N) main_arg5 (by exact (by decide : ∀ w, Pipeline.arrRef spec0 w ≠ main_arg5))).trans
      (V_main_arg5 m c)
  · exact Pipeline.withArrays_arr spec0 arrays_apart c (V0 m c) (fun w => (dats m 0 c).arrAt w cfg0.N) 20

/-- The kernel's run: the five results, and the arguments as they were. -/
theorem run_results (hR : ∀ c : Dev nD, (argsK m c).Real) :
    θ_run defs (onTc (τ := τ) (main (F := Ideal))) ⟨m, fun _ => 0, ρ⟩ fun r =>
      (∀ c : Dev nD, r.2.mem ((c.tc : Thread nD τ).loc main_v20) = (fun _ => (argsK m c).pred : FVec Ideal S1 .f32)
        ∧ r.2.mem ((c.tc : Thread nD τ).loc main_v18_3) = hidV3 m c
        ∧ r.2.mem ((c.tc : Thread nD τ).loc main_v19) = topics m c
        ∧ r.2.mem ((c.tc : Thread nD τ).loc main_v18_4) = longer m c
        ∧ r.2.mem ((c.tc : Thread nD τ).loc main_v18_2) = wtV m c) ∧ ArgsKept m r :=
  (θ_run defs _ _).mono (fun r h => ⟨fun c => by
      obtain ⟨ha, hr⟩ := h.1.1 c
      refine ⟨?_, (ha 22).trans (hid_array m c), ?_, (ha 23).trans (hist_array m c), (ha 21).trans (wt_array m c)⟩
      · refine (hr main_v20 (Pipeline.mem_restRefs_of main_v20 (by decide) (by decide))).trans ?_
        funext j
        have hj : j = (ix1 0 : S1.Idx) := (eq_ix1 (n0 := 1) j).trans (congrArg ix1 (Subsingleton.elim (α := Fin 1) _ _))
        rw [hj]
        exact (tail_pred m c).trans (predV_at m c (hR c))
      · exact (hr main_v19 (Pipeline.mem_restRefs_of main_v19 (by decide) (by decide))).trans (tail_topic m c), h.2.1⟩)
    (θ_run_and (run_arrays m ρ) (run_frame m ρ))

end Cert.Value
-- ==== Proof.Value.Stages.lean ====
/-
  The reference's results, cut into the stages its text has: the exercise's vector, the scores of the history, the 64
  greatest and their softmax, the rows taken, the knowledge slots' softmax, the prediction, the gates and the new state.
-/
module

public import proofs.«01_k».proof.Proof.Gen.ReferenceIdeal.Run
public import proofs.«01_k».proof.Proof.Value.Spec

@[expose] public section

set_option maxRecDepth 16384

noncomputable section

namespace Cert.Value

open Cert.ReferenceIdeal Cert.ReferenceIdeal.Gen Cert.ReferenceIdeal.Value
open Idealize.ShloMosaic Idealize.ShloMosaic.TcCoe

/-- The exercise's vector. -/
def rTopic (ex : FVec Ideal S1x768 .f32) (Wr : FVec Ideal S100x768 .f32) (br : FVec Ideal S100 .f32) : FVec Ideal S1x100 .f32 :=
  addf (Host.dotGeneral dot_S1x768_S768x100_S1x100_1_0_0_1_n_n none ex
    (transpose S768x100 [1, 0] Wr transposes_S100x768_S768x100_1_0)) (broadcastInDim S1x100 ![1] bcast_S100_S1x100_1 br)

/-- The scores of the history. -/
def rBeta (vs : FVec Ideal S2048x100 .f32) (t : FVec Ideal S1x100 .f32) : FVec Ideal S2048 .f32 :=
  shapeCast S2048 (Host.dotGeneral dot_S2048x100_S100x1_S2048x1_1_0_0_1_n_n none vs
    (shapeCast S100x1 t shapeCasts_S1x100_S100x1)) shapeCasts_S2048x1_S2048

/-- The 64 greatest scores. -/
def rVals (b : FVec Ideal S2048 .f32) : FVec Ideal S1x64 .f32 :=
  shapeCast S1x64 (Host.topK S64 0 (FloatOps.cmpfTotal .gt) b sliceFits_S2048_S64).1 shapeCasts_S64_S1x64

/-- Their positions. -/
def rIdx (b : FVec Ideal S2048 .f32) : IVec S64 32 :=
  (Host.topK S64 0 (FloatOps.cmpfTotal (F := Ideal) (φ := .f32) .gt) b sliceFits_S2048_S64).2

/-- The softmax of 64 scores. -/
def rSoft64 (v : FVec Ideal S1x64 .f32) : FVec Ideal S1x64 .f32 :=
  let e : FVec Ideal S1x64 .f32 := Host.exp (subf v (broadcastInDim S1x64 ![0, 1] bcast_S1x1_S1x64_0_1
    (broadcastInDim S1x1 ![0] bcast_S1_S1x1_0 (maximumf (broadcastInDim S1 ![] bcast_S_S1 (constant S_ .f32 0xFF800000#32))
      (Host.reduce FloatOps.maximumf v (constant S_ .f32 0xFF800000#32) reducesTo_S1x64_S1_d1 h_S_)))))
  Host.divf e (broadcastInDim S1x64 ![0, 1] bcast_S1x1_S1x64_0_1 (broadcastInDim S1x1 ![0] bcast_S1_S1x1_0
    (Host.reduceAdd e (constant S_ .f32 0x00000000#32) reducesTo_S1x64_S1_d1 h_S_)))

/-- The softmax of 128 scores. -/
def rSoft128 (v : FVec Ideal S1x128 .f32) : FVec Ideal S1x128 .f32 :=
  let e : FVec Ideal S1x128 .f32 := Host.exp (subf v (broadcastInDim S1x128 ![0, 1] bcast_S1x1_S1x128_0_1
    (broadcastInDim S1x1 ![0] bcast_S1_S1x1_0 (maximumf (broadcastInDim S1 ![] bcast_S_S1 (constant S_ .f32 0xFF800000#32))
      (Host.reduce FloatOps.maximumf v (constant S_ .f32 0xFF800000#32) reducesTo_S1x128_S1_d1 h_S_)))))
  Host.divf e (broadcastInDim S1x128 ![0, 1] bcast_S1x1_S1x128_0_1 (broadcastInDim S1x1 ![0] bcast_S1_S1x1_0
    (Host.reduceAdd e (constant S_ .f32 0x00000000#32) reducesTo_S1x128_S1_d1 h_S_)))

/-- The positions as the gather takes them: a negative one counted from the end. -/
def rPos (ix : IVec S64 32) : IVec S64x1 32 :=
  broadcastInDim S64x1 ![0] bcast_S64_S64x1_0
    (select (cmpi .slt ix (broadcastInDim S64 ![] bcast_S_S64 (constantI S_ 32 0#32)))
      (addi ix (broadcastInDim S64 ![] bcast_S_S64 (constantI S_ 32 2048#32))) ix)

/-- Whether each of them is a row of the history. -/
def rIn (ix : IVec S64 32) : IVec S64 1 :=
  Host.reduce IntOp.andi
    (andi (cmpi .sge (rPos ix) (broadcastInDim S64x1 ![] bcast_S_S64x1 (constantI S_ 32 0#32)))
      (cmpi .sle (rPos ix) (broadcastInDim S64x1 ![0, 1] bcast_S1x1_S64x1_0_1
        (broadcastInDim S1x1 ![1] bcast_S1_S1x1_1 (constantI S1 32 2047#32)))))
    (constantI S_ 1 1#1) reducesTo_S64x1_S64_d1 h_S_

/-- The rows of the history at the positions (a position outside it gives the fill). -/
def rRows (hs : FVec Ideal S2048x128x256 .f32) (ix : IVec S64 32) : FVec Ideal S64x32768 .f32 :=
  select (broadcastInDim S64x32768 ![0] bcast_S64_S64x32768_0 (rIn ix))
    (Host.gather gather_S2048x32768_S64x1_S64x32768_1_0_n_n_0_1_132768
      (shapeCast S2048x32768 hs shapeCasts_S2048x128x256_S2048x32768) (rPos ix))
    (broadcastInDim S64x32768 ![] bcast_S_S64x32768 (constant S_ .f32 0x7FC00000#32))

/-- The history's hidden state, weighted. -/
def rAttn (w : FVec Ideal S1x64 .f32) (rows : FVec Ideal S64x32768 .f32) : FVec Ideal S128x256 .f32 :=
  shapeCast S128x256 (shapeCast S32768 (Host.dotGeneral dot_S1x64_S64x32768_S1x32768_1_0_0_1_n_n none w rows)
    shapeCasts_S1x32768_S32768) shapeCasts_S32768_S128x256

/-- The concepts' vector. -/
def rKey (co : FVec Ideal S128 .f32) (Wk : FVec Ideal S64x128 .f32) (bk : FVec Ideal S64 .f32) : FVec Ideal S1x64 .f32 :=
  addf (Host.dotGeneral dot_S1x128_S128x64_S1x64_1_0_0_1_n_n none (shapeCast S1x128 co shapeCasts_S128_S1x128)
    (transpose S128x64 [1, 0] Wk transposes_S64x128_S128x64_1_0)) (broadcastInDim S1x64 ![1] bcast_S64_S1x64_1 bk)

/-- The scores of the knowledge slots. -/
def rSlot (km : FVec Ideal S128x64 .f32) (k : FVec Ideal S1x64 .f32) : FVec Ideal S1x128 .f32 :=
  shapeCast S1x128 (Host.dotGeneral dot_S128x64_S64x1_S128x1_1_0_0_1_n_n none km
    (shapeCast S64x1 k shapeCasts_S1x64_S64x1)) shapeCasts_S128x1_S1x128

/-- The predicted score. -/
def rPred (t : FVec Ideal S1x100 .f32) (al : FVec Ideal S1x128 .f32) (at' : FVec Ideal S128x256 .f32)
    (Ws : FVec Ideal S1x356 .f32) (bs : FVec Ideal S1 .f32) : FVec Ideal S1 .f32 :=
  shapeCast S1 (addf (Host.dotGeneral dot_S1x356_S356x1_S1x1_1_0_0_1_n_n none
    (shapeCast S1x356 (concatenate S356 0 [⟨S100, shapeCast S100 t shapeCasts_S1x100_S100⟩,
      ⟨S256, shapeCast S256 (Host.dotGeneral dot_S1x128_S128x256_S1x256_1_0_0_1_n_n none al at') shapeCasts_S1x256_S256⟩]
      concatenates_S100_S256_S356_d0) shapeCasts_S356_S1x356)
    (transpose S356x1 [1, 0] Ws transposes_S1x356_S356x1_1_0)) (broadcastInDim S1x1 ![1] bcast_S1_S1x1_1 bs)) shapeCasts_S1x1_S1

/-- The input's share of the gates. -/
def rGi (al : FVec Ideal S1x128 .f32) (t : FVec Ideal S1x100 .f32) (sc : FVec Ideal S1 .f32)
    (W : FVec Ideal S768x101 .f32) (b : FVec Ideal S768 .f32) : FVec Ideal S128x768 .f32 :=
  addf (Host.dotGeneral dot_S128x101_S101x768_S128x768_1_0_0_1_n_n none
    (mulf (broadcastInDim S128x101 ![0, 1] bcast_S128x1_S128x101_0_1 (shapeCast S128x1 al shapeCasts_S1x128_S128x1))
      (broadcastInDim S128x101 ![0, 1] bcast_S1x101_S128x101_0_1 (shapeCast S1x101
        (concatenate S101 0 [⟨S100, shapeCast S100 t shapeCasts_S1x100_S100⟩, ⟨S1, sc⟩] concatenates_S100_S1_S101_d0)
        shapeCasts_S101_S1x101)))
    (transpose S101x768 [1, 0] W transposes_S768x101_S101x768_1_0))
    (broadcastInDim S128x768 ![0, 1] bcast_S1x768_S128x768_0_1 (broadcastInDim S1x768 ![1] bcast_S768_S1x768_1 b))

/-- The state's share of the gates. -/
def rGh (h0 : FVec Ideal S1x128x256 .f32) (W : FVec Ideal S768x256 .f32) (b : FVec Ideal S768 .f32) : FVec Ideal S128x768 .f32 :=
  addf (Host.dotGeneral dot_S128x256_S256x768_S128x768_1_0_0_1_n_n none
    (shapeCast S128x256 h0 shapeCasts_S1x128x256_S128x256) (transpose S256x768 [1, 0] W transposes_S768x256_S256x768_1_0))
    (broadcastInDim S128x768 ![0, 1] bcast_S1x768_S128x768_0_1 (broadcastInDim S1x768 ![1] bcast_S768_S1x768_1 b))

/-- The ones the gates are computed from. -/
def rOne : FVec Ideal S128x256 .f32 := broadcastInDim S128x256 ![] bcast_S_S128x256 (constant S_ .f32 0x3F800000#32)

/-- A sigmoid, written out. -/
def rSig (x : FVec Ideal S128x256 .f32) : FVec Ideal S128x256 .f32 := Host.divf rOne (addf rOne (Host.exp (Host.negf x)))

/-- The new hidden state. -/
def rHid (gi gh : FVec Ideal S128x768 .f32) (h0 : FVec Ideal S1x128x256 .f32) : FVec Ideal S128x256 .f32 :=
  let z : FVec Ideal S128x256 .f32 := rSig (addf (extractStridedSlice S128x256 ![0, 256] gi slices_S128x768_S128x256_0_256)
    (extractStridedSlice S128x256 ![0, 256] gh slices_S128x768_S128x256_0_256))
  let r : FVec Ideal S128x256 .f32 := rSig (addf (extractStridedSlice S128x256 ![0, 0] gi slices_S128x768_S128x256_0_0)
    (extractStridedSlice S128x256 ![0, 0] gh slices_S128x768_S128x256_0_0))
  addf (mulf (subf rOne z) (Host.tanh (addf (extractStridedSlice S128x256 ![0, 512] gi slices_S128x768_S128x256_0_512)
      (mulf r (extractStridedSlice S128x256 ![0, 512] gh slices_S128x768_S128x256_0_512)))))
    (mulf z (shapeCast S128x256 h0 shapeCasts_S1x128x256_S128x256))

variable (m : (ℓ : Loc nD τ sig) → Buf (Elt Ideal) ℓ) (c : Dev nD)

/-! ## The stages over the argument arrays -/

abbrev topicR : FVec Ideal S1x100 .f32 := rTopic (m ((c.tc : Thread nD τ).loc main_arg1)) (m ((c.tc : Thread nD τ).loc main_arg7)) (m ((c.tc : Thread nD τ).loc main_arg8))
abbrev betaR : FVec Ideal S2048 .f32 := rBeta (m ((c.tc : Thread nD τ).loc main_arg5)) (topicR m c)
abbrev wtR : FVec Ideal S1x64 .f32 := rSoft64 (rVals (betaR m c))
abbrev attnR : FVec Ideal S128x256 .f32 := rAttn (wtR m c) (rRows (m ((c.tc : Thread nD τ).loc main_arg6)) (rIdx (betaR m c)))
abbrev alphaR : FVec Ideal S1x128 .f32 := rSoft128 (rSlot (m ((c.tc : Thread nD τ).loc main_arg11))
  (rKey (m ((c.tc : Thread nD τ).loc main_arg0)) (m ((c.tc : Thread nD τ).loc main_arg9)) (m ((c.tc : Thread nD τ).loc main_arg10))))
abbrev predR : FVec Ideal S1 .f32 := rPred (topicR m c) (alphaR m c) (attnR m c) (m ((c.tc : Thread nD τ).loc main_arg12)) (m ((c.tc : Thread nD τ).loc main_arg13))
abbrev hidR : FVec Ideal S128x256 .f32 := rHid
  (rGi (alphaR m c) (topicR m c) (m ((c.tc : Thread nD τ).loc main_arg2)) (m ((c.tc : Thread nD τ).loc main_arg14)) (m ((c.tc : Thread nD τ).loc main_arg16)))
  (rGh (m ((c.tc : Thread nD τ).loc main_arg4)) (m ((c.tc : Thread nD τ).loc main_arg15)) (m ((c.tc : Thread nD τ).loc main_arg17)))
  (m ((c.tc : Thread nD τ).loc main_arg4))
abbrev hid3R : FVec Ideal S1x128x256 .f32 := broadcastInDim S1x128x256 ![1, 2] bcast_S128x256_S1x128x256_1_2 (hidR m c)

/-- The reference's run, its results by their stages. -/
theorem run_stages (ρ : Dev nD → PrngReg) :
    θ_run defs (onTc (τ := τ) (main (F := Ideal))) ⟨m, fun _ => 0, ρ⟩ fun r => ∀ c : Dev nD,
      r.2.mem ((c.tc : Thread nD τ).loc main_v52) = predR m c
      ∧ r.2.mem ((c.tc : Thread nD τ).loc main_v99) = hid3R m c
      ∧ r.2.mem ((c.tc : Thread nD τ).loc main_v100)
        = concatenate S2049x100 0 [⟨S2048x100, (m ((c.tc : Thread nD τ).loc main_arg5))⟩, ⟨S1x100, topicR m c⟩]
          concatenates_S2048x100_S1x100_S2049x100_d0
      ∧ r.2.mem ((c.tc : Thread nD τ).loc main_v101)
        = concatenate S2049x128x256 0 [⟨S2048x128x256, (m ((c.tc : Thread nD τ).loc main_arg6))⟩, ⟨S1x128x256, hid3R m c⟩]
          concatenates_S2048x128x256_S1x128x256_S2049x128x256_d0
      ∧ r.2.mem ((c.tc : Thread nD τ).loc main_v23) = wtR m c :=
  (θ_run defs _ _).mono (fun _ h c => ⟨(h c).1, (h c).2.1, (h c).2.2.1, (h c).2.2.2.1, (h c).2.2.2.2.1⟩)
    (Value.run (F := Ideal) m ρ)

end Cert.Value
-- ==== Proof.Value.Ref.lean ====
/-
  The reference's stages are the mathematics of Spec.lean, read at an index.
-/
module

public import proofs.«01_k».proof.Proof.Value.Stages
public import Idealize.ShloMosaic.Lib.Routing.Ops

@[expose] public section

set_option maxRecDepth 16384

noncomputable section

namespace Cert.Value

open Cert.ReferenceIdeal Cert.ReferenceIdeal.Gen
open Idealize.ShloMosaic Idealize.ShloMosaic.TcCoe

/-! ## The greatest 64 -/

/-- The sort under the comparison of scores takes them in the order of Pick.lean: it is stable. -/
theorem sortedFrom_gt {n : ℕ} (β : Fin n → EReal) (R : Fin n → Fin n → Bool)
    (hR : ∀ a b, R a b = decide (β b < β a)) : sortedFrom R = pick β := by
  refine sortedFrom_congr_later R (ahead β) fun a b hab => ?_
  rw [hR]
  unfold ahead
  rw [decide_eq_false (p := b < a) (by omega), Bool.and_false, Bool.or_false]

theorem topK_at (b : FVec Ideal S2048 .f32) (β : Fin 2048 → EReal) (hb : ∀ r : Fin 2048, b (ix1 r) = β r) (k : Fin 64) :
    (Host.topK S64 0 (FloatOps.cmpfTotal (F := Ideal) (φ := .f32) .gt) b sliceFits_S2048_S64).1 (ix1 k) = β (pick β (k.castLE (by decide)))
    ∧ (Host.topK S64 0 (FloatOps.cmpfTotal (F := Ideal) (φ := .f32) .gt) b sliceFits_S2048_S64).2 (ix1 k)
      = BitVec.ofNat 32 (pick β (k.castLE (by decide))).val := by
  have hd : 0 < S2048.rank := Nat.zero_lt_one
  have e : ∀ (j : S2048.Idx) (c : Fin 2048), j.along (⟨0, hd⟩ : Fin S2048.rank) c = ix1 c := fun j c =>
    (Shape.Idx.along_rank1 j c).trans (by funext a; have : a = 0 := Subsingleton.elim _ _; subst this; rfl)
  have hs : ∀ j : S2048.Idx, sortedFrom (n := 2048) (fun k k' =>
      FloatOps.cmpfTotal (F := Ideal) (φ := .f32) .gt (b (j.along ⟨0, hd⟩ k)) (b (j.along ⟨0, hd⟩ k')) == 1#1) = pick β := fun j => by
    refine sortedFrom_gt β _ fun a a' => ?_
    rw [e, e, hb, hb]
    show (Ideal.cmpTotal .gt (β a) (β a') == 1#1) = _
    by_cases h : β a' < β a <;> simp [Ideal.cmpTotal, Ideal.cmp, CmpDirection.ordered, h]
  have hi : ∀ k : Fin 64, (extractStridedSlice S64 (fun _ => 0) (fun j : S2048.Idx => j) sliceFits_S2048_S64) (ix1 k)
      = ix1 (k.castLE (by decide) : Fin 2048) := fun k => by
    funext a; have : a = 0 := Subsingleton.elim _ _; subst this; exact Fin.ext (Nat.zero_add _)
  unfold Host.topK Host.sort2
  simp only [dif_pos hd]
  refine ⟨?_, ?_⟩
  · refine (congrArg (fun j : S2048.Idx => b (j.along ⟨0, hd⟩ (sortedFrom (n := 2048) (fun k k' =>
      FloatOps.cmpfTotal (F := Ideal) (φ := .f32) .gt (b (j.along ⟨0, hd⟩ k)) (b (j.along ⟨0, hd⟩ k')) == 1#1) (j ⟨0, hd⟩)))) (hi k)).trans ?_
    dsimp only
    rw [hs, e, hb]
    rfl
  · refine (congrArg (fun j : S2048.Idx => iotaInDim S2048 32 ⟨0, hd⟩ (j.along ⟨0, hd⟩ (sortedFrom (n := 2048) (fun k k' =>
      FloatOps.cmpfTotal (F := Ideal) (φ := .f32) .gt (b (j.along ⟨0, hd⟩ k)) (b (j.along ⟨0, hd⟩ k')) == 1#1) (j ⟨0, hd⟩)))) (hi k)).trans ?_
    dsimp only
    rw [hs, e]
    rfl

/-! ## The stages at an index -/

theorem rSoft64_at (v : FVec Ideal S1x64 .f32) (f : Fin 64 → EReal) (hv : ∀ i : Fin 64, v (ix2 0 i) = f i) (i : Fin 64) :
    rSoft64 v (ix2 0 i) = soft f i := by
  pointwise [rSoft64]
  simp only [negInf, hv, max_bot_left]
  rfl

theorem rSoft128_at (v : FVec Ideal S1x128 .f32) (f : Fin 128 → EReal) (hv : ∀ i : Fin 128, v (ix2 0 i) = f i) (i : Fin 128) :
    rSoft128 v (ix2 0 i) = soft f i := by
  pointwise [rSoft128]
  simp only [negInf, hv, max_bot_left]
  rfl

theorem rPos_at (ix : IVec S64 32) (k : Fin 64) (p : Fin 2048) (h : ix (ix1 k) = BitVec.ofNat 32 p.val) :
    rPos ix (ix2 k 0) = BitVec.ofNat 32 p.val := by
  pointwise [rPos]
  rw [h]
  refine if_neg fun e => ?_
  have := IntOp.cmpi_slt.mp e
  rw [BitVec.toInt_eq_toNat_cond, BitVec.toNat_ofNat, Nat.mod_eq_of_lt (by omega), if_pos (by omega)] at this
  have h0 : (0#32).toInt = 0 := by decide
  omega

theorem rIn_at (ix : IVec S64 32) (k : Fin 64) (p : Fin 2048) (h : ix (ix1 k) = BitVec.ofNat 32 p.val) :
    rIn ix (ix1 k) = 1#1 := by
  pointwise [rIn]
  have hp : ∀ x : Fin 1, rPos ix (ix2 k x) = BitVec.ofNat 32 p.val := fun x => by
    rw [Subsingleton.elim x 0]; exact rPos_at ix k p h
  have hi : (BitVec.ofNat 32 p.val).toInt = p.val := by
    rw [BitVec.toInt_eq_toNat_cond, BitVec.toNat_ofNat, Nat.mod_eq_of_lt (by omega), if_pos (by omega)]
  have h0 : (0#32).toInt = 0 := by decide
  have h1 : (2047#32).toInt = 2047 := by decide
  have e : ∀ x : Fin 1, IntOp.andi (IntOp.cmpi CmpIPredicate.sge (rPos ix (ix2 k x)) 0#32)
      (IntOp.cmpi CmpIPredicate.sle (rPos ix (ix2 k x)) 2047#32) = 1#1 := fun x => by
    rw [IntOp.andi_eq_one, IntOp.cmpi_sge, IntOp.cmpi_sle, hp, hi, h0, h1]
    omega
  simp only [e]
  decide

theorem rRows_at (hs : FVec Ideal S2048x128x256 .f32) (ix : IVec S64 32) (k : Fin 64) (p : Fin 2048)
    (h : ix (ix1 k) = BitVec.ofNat 32 p.val) (s : Fin 128) (d : Fin 256) :
    rRows hs ix (ix2 k ⟨s.val * 256 + d.val, by omega⟩) = hs (ix3 p s d) := by
  pointwise [rRows]
  rw [rIn_at ix k p h]
  refine (if_pos rfl).trans ?_
  refine (Routing.gather_row (nb := 2048) (B := 32768) (n := 64) _ rfl rfl rfl rfl rfl _ (rPos ix) k _ p (rPos_at ix k p h) (by decide)).trans ?_
  pointwise
  have e1 : (⟨(s.val * 256 + d.val) / 256, by omega⟩ : Fin 128) = s := Fin.ext (by dsimp only; omega)
  have e2 : (⟨(s.val * 256 + d.val) % 256, by omega⟩ : Fin 256) = d := Fin.ext (by dsimp only; omega)
  rw [e1, e2]

/-! ## The stages over the argument arrays -/

variable (m : (ℓ : Loc nD τ sig) → Buf (Elt Ideal) ℓ) (c : Dev nD)

/-- The argument arrays of device `c`, by coordinates. -/
def argsR : Args where
  co i := (m ((c.tc : Thread nD τ).loc main_arg0) : FVec Ideal S128 .f32) (ix1 i)
  ex i := (m ((c.tc : Thread nD τ).loc main_arg1) : FVec Ideal S1x768 .f32) (ix2 0 i)
  sc := (m ((c.tc : Thread nD τ).loc main_arg2) : FVec Ideal S1 .f32) (ix1 0)
  h0 i j := (m ((c.tc : Thread nD τ).loc main_arg4) : FVec Ideal S1x128x256 .f32) (ix3 0 i j)
  vs i j := (m ((c.tc : Thread nD τ).loc main_arg5) : FVec Ideal S2048x100 .f32) (ix2 i j)
  hs i j k := (m ((c.tc : Thread nD τ).loc main_arg6) : FVec Ideal S2048x128x256 .f32) (ix3 i j k)
  Wr i j := (m ((c.tc : Thread nD τ).loc main_arg7) : FVec Ideal S100x768 .f32) (ix2 i j)
  br i := (m ((c.tc : Thread nD τ).loc main_arg8) : FVec Ideal S100 .f32) (ix1 i)
  Wk i j := (m ((c.tc : Thread nD τ).loc main_arg9) : FVec Ideal S64x128 .f32) (ix2 i j)
  bk i := (m ((c.tc : Thread nD τ).loc main_arg10) : FVec Ideal S64 .f32) (ix1 i)
  km i j := (m ((c.tc : Thread nD τ).loc main_arg11) : FVec Ideal S128x64 .f32) (ix2 i j)
  Ws i := (m ((c.tc : Thread nD τ).loc main_arg12) : FVec Ideal S1x356 .f32) (ix2 0 i)
  bs := (m ((c.tc : Thread nD τ).loc main_arg13) : FVec Ideal S1 .f32) (ix1 0)
  Wih i j := (m ((c.tc : Thread nD τ).loc main_arg14) : FVec Ideal S768x101 .f32) (ix2 i j)
  Whh i j := (m ((c.tc : Thread nD τ).loc main_arg15) : FVec Ideal S768x256 .f32) (ix2 i j)
  bih i := (m ((c.tc : Thread nD τ).loc main_arg16) : FVec Ideal S768 .f32) (ix1 i)
  bhh i := (m ((c.tc : Thread nD τ).loc main_arg17) : FVec Ideal S768 .f32) (ix1 i)

theorem topicR_at (j : Fin 100) : topicR m c (ix2 0 j) = (argsR m c).topic j := by
  pointwise [rTopic]
  rfl

theorem betaR_at (r : Fin 2048) : betaR m c (ix1 r) = (argsR m c).beta r := by
  unfold betaR
  pointwise [rBeta]
  refine Finset.sum_congr rfl fun j _ => ?_
  rw [topicR_at, mul_comm]
  rfl

theorem wtR_at (k : Fin 64) : wtR m c (ix2 0 k) = (argsR m c).wt k := by
  refine rSoft64_at _ _ (fun i => ?_) k
  pointwise [rVals]
  exact (topK_at _ _ (betaR_at m c) i).1

theorem attnR_at (s : Fin 128) (d : Fin 256) : attnR m c (ix2 s d) = (argsR m c).attn s d := by
  unfold attnR
  pointwise [rAttn]
  refine Finset.sum_congr rfl fun k _ => ?_
  rw [wtR_at]
  exact congrArg ((argsR m c).wt k * ·) (rRows_at _ _ k _ (topK_at _ _ (betaR_at m c) k).2 s d)

theorem alphaR_at (s : Fin 128) : alphaR m c (ix2 0 s) = (argsR m c).alpha s := by
  refine rSoft128_at _ _ (fun i => ?_) s
  pointwise [rSlot]
  refine Finset.sum_congr rfl fun k _ => ?_
  rw [mul_comm]
  pointwise [rKey]
  rfl

theorem predR_at : predR m c (ix1 0) = (argsR m c).pred := by
  unfold predR
  pointwise [rPred]
  simp only [topicR_at, alphaR_at, attnR_at]
  rfl

theorem giR_at (h : (argsR m c).Real) (s : Fin 128) (q : Fin 768) :
    rGi (alphaR m c) (topicR m c) (m ((c.tc : Thread nD τ).loc main_arg2)) (m ((c.tc : Thread nD τ).loc main_arg14))
      (m ((c.tc : Thread nD τ).loc main_arg16)) (ix2 s q) = (argsR m c).gi s q := by
  pointwise [rGi]
  simp only [topicR_at, alphaR_at]
  unfold Args.gi
  rw [h.alpha_mul_add, h.alpha_mul_sum]
  simp only [Finset.univ_unique, Finset.sum_const, Finset.card_singleton, one_smul, mul_assoc]
  rfl

theorem ghR_at (s : Fin 128) (q : Fin 768) :
    rGh (m ((c.tc : Thread nD τ).loc main_arg4)) (m ((c.tc : Thread nD τ).loc main_arg15))
      (m ((c.tc : Thread nD τ).loc main_arg17)) (ix2 s q) = (argsR m c).gh s q := by
  pointwise [rGh]
  rfl

theorem hidR_at (h : (argsR m c).Real) (s : Fin 128) (d : Fin 256) : hidR m c (ix2 s d) = (argsR m c).hid s d := by
  unfold hidR
  pointwise [rHid, rSig, rOne]
  simp only [giR_at m c h, ghR_at]
  rfl

end Cert.Value
-- ==== Proof.Value.Agree.lean ====
/-
  The reference's five results and the kernel's, from memories which agree on the arguments: equal arrays.
-/
module

public import proofs.«01_k».proof.Proof.Value.Kernel
public import proofs.«01_k».proof.Proof.Value.Ref

@[expose] public section

set_option maxRecDepth 16384

noncomputable section

namespace Cert.Value

open Idealize.ShloMosaic Idealize.ShloMosaic.TcCoe
open Cert.KernelIdeal.Hand

/-- Along the first axis, a longer array's element is the first part's before the first part's end and the second part's there. -/
theorem append_at (a : FVec Ideal ⟨3, ![2048, 128, 256]⟩ .f32) (b : FVec Ideal ⟨3, ![1, 128, 256]⟩ .f32)
    (h : Shape.Concatenates [(⟨3, ![2048, 128, 256]⟩ : Shape), ⟨3, ![1, 128, 256]⟩] ⟨3, ![2049, 128, 256]⟩ 0)
    (r : Fin 2049) (i : Fin 128) (j : Fin 256) :
    concatenate ⟨3, ![2049, 128, 256]⟩ 0 [⟨⟨3, ![2048, 128, 256]⟩, a⟩, ⟨⟨3, ![1, 128, 256]⟩, b⟩] h (ix3 r i j)
      = if hr : r.val < 2048 then a (ix3 ⟨r.val, hr⟩ i j) else b (ix3 0 i j) := by
  by_cases hr : r.val < 2048
  · rw [dif_pos hr]
    refine concatenate_pair_apply_left (t := ⟨3, ![2049, 128, 256]⟩) 0 a b h _ rfl (ix3 ⟨r.val, hr⟩ i j) fun b => ?_
    fin_cases b <;> rfl
  · rw [dif_neg hr]
    have : r.val = 2048 := by omega
    refine concatenate_pair_apply_right (t := ⟨3, ![2049, 128, 256]⟩) 0 a b h _ rfl rfl (ix3 0 i j) (fun b hb => ?_) ?_
    · fin_cases b
      · exact absurd rfl hb
      · rfl
      · rfl
    · exact this.symm

section
open Cert.ReferenceIdeal
variable (m : (ℓ : Loc nD τ sig) → Buf (Elt Ideal) ℓ) (c : Dev nD)

/-- The reference's new hidden state, under its leading axis of one. -/
theorem hid3R_at (h : (argsR m c).Real) (s : Fin 128) (d : Fin 256) : hid3R m c (ix3 0 s d) = (argsR m c).hid s d := by
  rw [← hidR_at m c h s d]
  unfold hid3R
  generalize hidR m c = v
  pointwise

end

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's prediction is the kernel's. -/
theorem pred_agree (e : argsR m' c = argsK m c) : predR m' c = (fun _ => (argsK m c).pred : FVec Ideal ⟨1, ![1]⟩ .f32) := by
  funext j
  have hj : j = (ix1 0 : (⟨1, ![1]⟩ : Shape).Idx) := (eq_ix1 (n0 := 1) j).trans (congrArg ix1 (Subsingleton.elim (α := Fin 1) _ _))
  rw [hj, ← e]
  exact predR_at m' c

/-- The reference's topic is the kernel's. -/
theorem topic_agree (e : argsR m' c = argsK m c) : topicR m' c = topicV m c := by
  funext j
  have hj : j = ix2 0 (j 1) := (eq_ix2 (n0 := 1) (n1 := 100) j).trans
    (congrArg (fun a : Fin 1 => ix2 a (j 1 : Fin 100)) (Subsingleton.elim (α := Fin 1) _ _))
  rw [hj]
  refine (topicR_at m' c _).trans ?_
  rw [e]
  exact (topicV_at m c _).symm

/-- The reference's attention weights are the kernel's. -/
theorem wt_agree (hR : (argsK m c).Real) (e : argsR m' c = argsK m c) : wtR m' c = wtV m c := by
  funext j
  have hj : j = ix2 0 (j 1) := (eq_ix2 (n0 := 1) (n1 := 64) j).trans
    (congrArg (fun a : Fin 1 => ix2 a (j 1 : Fin 64)) (Subsingleton.elim (α := Fin 1) _ _))
  rw [hj]
  refine (wtR_at m' c _).trans ?_
  rw [e]
  exact (wtV_at m c hR _).symm

/-- The reference's new hidden state is the kernel's. -/
theorem hid_agree (hR : (argsK m c).Real) (e : argsR m' c = argsK m c) : hid3R m' c = hidV3 m c := by
  funext j
  have hj : j = ix3 0 (j 1) (j 2) := (eq_ix3 (n0 := 1) (n1 := 128) (n2 := 256) j).trans
    (congrArg (fun a : Fin 1 => ix3 a (j 1 : Fin 128) (j 2 : Fin 256)) (Subsingleton.elim (α := Fin 1) _ _))
  rw [hj]
  refine (hid3R_at m' c (e ▸ hR) _ _).trans ?_
  rw [e]
  exact (hidV3_at m c _ _).symm

/-- The reference's longer history is the kernel's. -/
theorem longer_agree (hR : (argsK m c).Real) (e : argsR m' c = argsK m c)
    (h : Shape.Concatenates [(⟨3, ![2048, 128, 256]⟩ : Shape), ⟨3, ![1, 128, 256]⟩] ⟨3, ![2049, 128, 256]⟩ 0) :
    concatenate (α := EReal) ⟨3, ![2049, 128, 256]⟩ 0 [⟨⟨3, ![2048, 128, 256]⟩, (m' ((c.tc : Thread Cert.ReferenceIdeal.nD Cert.ReferenceIdeal.τ).loc Cert.ReferenceIdeal.main_arg6)
        : FVec Ideal ⟨3, ![2048, 128, 256]⟩ .f32)⟩, ⟨⟨3, ![1, 128, 256]⟩, hid3R m' c⟩] h = longer m c := by
  funext j
  have hj : j = ix3 (j 0) (j 1) (j 2) := eq_ix3 (n0 := 2049) (n1 := 128) (n2 := 256) j
  rw [hj]
  generalize (j 0 : Fin 2049) = r
  generalize (j 1 : Fin 128) = s
  generalize (j 2 : Fin 256) = d
  refine (append_at _ _ h r s d).trans ?_
  by_cases hr : r.val < 2048
  · refine (dif_pos hr).trans (Eq.trans ?_ (dif_pos hr).symm)
    exact congrFun (congrFun (congrFun (congrArg Args.hs e) ⟨r.val, hr⟩) s) d
  · refine (dif_neg hr).trans (Eq.trans ?_ (dif_neg hr).symm)
    refine (hid3R_at m' c (e ▸ hR) s d).trans ?_
    rw [e]
    rfl

end Cert.Value
-- ==== Proof.Claims.Algebraic.lean ====
/-
  The value claim: over the extended reals, from memories which agree on the arguments and whose scores are computed from
  real numbers, the kernel and the reference end with the same five results.
-/
module

public import proofs.«01_k».proof.Proof.Value.Pre
public import proofs.«01_k».proof.Proof.Value.Agree
public import proofs.«01_k».proof.Proof.Claims.Reference

@[expose] public section

set_option maxRecDepth 16384

noncomputable section

namespace Cert.Proof

open Idealize.ShloMosaic Idealize.ShloMosaic.TcCoe Idealize.SL.Sem
open Cert.KernelIdeal.Hand Cert.Value

/-- The value claim. -/
theorem algebraic : Cert.algebraic_KernelIdeal_ReferenceIdeal_pre_real_scores_inputs := by
  intro m g m' g' hpre hargs
  have hR : ∀ c : Dev Cert.KernelIdeal.nD, (argsK m c).Real := args_real m hpre
  have hA : ∀ c : Dev Cert.KernelIdeal.nD, argsR m' c = argsK m c := fun c => by
    obtain ⟨a0, a1, a2, a3, a4, a5, a6, a7, a8, a9, a10, a11, a12, a13, a14, a15, a16, a17⟩ := hargs c
    unfold argsR argsK
    simp only [a0, a1, a2, a4, a5, a6, a7, a8, a9, a10, a11, a12, a13, a14, a15, a16, a17]
  refine ⟨fun c => (fun _ => (argsK m c).pred : FVec Ideal ⟨1, ![1]⟩ .f32), fun c => hidV3 m c, fun c => topics m c,
    fun c => longer m c, fun c => wtV m c, ?_, ?_⟩
  · refine (θ_run _ _ _).mono (fun r h c => ?_) (run_results m g hR)
    obtain ⟨h0, h1, h2, h3, h4⟩ := h.1 c
    exact ⟨h0, h1, h2, h3, h4, h.2 c⟩
  · refine (θ_run _ _ _).mono (fun r h c => ?_) (θ_run_and (run_stages m' g') (reference_frame m' g' trivial))
    obtain ⟨h0, h1, h2, h3, h4⟩ := h.1 c
    refine ⟨h0.trans (pred_agree m m' c (hA c)), h1.trans (hid_agree m m' c (hR c) (hA c)), h2.trans ?_,
      h3.trans (longer_agree m m' c (hR c) (hA c) _), h4.trans (wt_agree m m' c (hR c) (hA c)), h.2.1 c⟩
    exact congrArg₂ (fun (a : FVec Ideal ⟨2, ![2048, 100]⟩ .f32) (b : FVec Ideal ⟨2, ![1, 100]⟩ .f32) =>
      concatenate Cert.KernelIdeal.S2049x100 0 [⟨Cert.KernelIdeal.S2048x100, a⟩, ⟨Cert.KernelIdeal.S1x100, b⟩]
        Cert.KernelIdeal.Gen.concatenates_S2048x100_S1x100_S2049x100_d0) (hargs c).2.2.2.2.2.1 (topic_agree m m' c (hA c))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims.Same
public import proofs.«01_k».proof.Proof.Claims.Reference
public import proofs.«01_k».proof.Proof.Claims.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Value.preFacts, kernel_frame, kernel_ideal_frame, fun m g _ => kernel_ideal_frame m g trivial, reference_frame,
  fun m g _ => reference_frame m g trivial, trivial, algebraic⟩

end Cert.Proof

end
